-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_temperature_below_inf [hPre_temperature_below_inf : Cert.Pre_temperature_below_inf.Facts] (m : (ℓ : Loc Cert.KernelIdeal.nD Cert.KernelIdeal.τ Cert.KernelIdeal.sig) → Buf (Elt Ideal) ℓ) : Prop :=
  ∀ c : Dev Cert.KernelIdeal.nD,
    (Cert.Pre_temperature_below_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_temperature_below_inf [hPre_temperature_below_inf : Cert.Pre_temperature_below_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_temperature_below_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_temperature_below_inf [hKernelIdeal : Cert.KernelIdeal.Facts] [hPre_temperature_below_inf : Cert.Pre_temperature_below_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_temperature_below_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_temperature_below_inf [hReferenceIdeal : Cert.ReferenceIdeal.Facts] [hPre_temperature_below_inf : Cert.Pre_temperature_below_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_temperature_below_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_temperature_below_inf [hKernelIdeal : Cert.KernelIdeal.Facts] [hReferenceIdeal : Cert.ReferenceIdeal.Facts] [hPre_temperature_below_inf : Cert.Pre_temperature_below_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_temperature_below_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13_9) = v0 c
          ∧ r.2.mem ((c.tc : Thread Cert.ReferenceIdeal.nD Cert.ReferenceIdeal.τ).loc Cert.ReferenceIdeal.main_v13_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_temperature_below_inf : Cert.Pre_temperature_below_inf.Facts),
    quiescent_Kernel (hKernel := hKernel)
    ∧ quiescent_KernelIdeal (hKernelIdeal := hKernelIdeal)
    ∧ quiescent_KernelIdeal_pre_temperature_below_inf (hKernelIdeal := hKernelIdeal) (hPre_temperature_below_inf := hPre_temperature_below_inf)
    ∧ quiescent_ReferenceIdeal (hReferenceIdeal := hReferenceIdeal)
    ∧ quiescent_ReferenceIdeal_pre_temperature_below_inf (hReferenceIdeal := hReferenceIdeal) (hPre_temperature_below_inf := hPre_temperature_below_inf)
    ∧ preserves_Kernel_KernelIdeal
    ∧ algebraic_KernelIdeal_ReferenceIdeal_pre_temperature_below_inf (hKernelIdeal := hKernelIdeal) (hReferenceIdeal := hReferenceIdeal) (hPre_temperature_below_inf := hPre_temperature_below_inf)
-- ==== Pre_temperature_below_inf.lean ====
abbrev S1x1x1024 : Shape := ⟨3, ![1, 1, 1024]⟩
abbrev S1 : Shape := ⟨1, ![1]⟩
abbrev S15 : Shape := ⟨1, ![15]⟩
abbrev S15x2048x1024 : Shape := ⟨3, ![15, 2048, 1024]⟩
abbrev S1024x1024 : Shape := ⟨2, ![1024, 1024]⟩
abbrev S1024 : Shape := ⟨1, ![1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S1x1x1024 .f32) (main_arg1 : FVec F S1x1x1024 .f32) (main_arg2 : FVec F S1 .f32) (main_arg3 : FVec F S15 .f32) (main_arg4 : FVec F S15x2048x1024 .f32) (main_arg5 : FVec F S15x2048x1024 .f32) (main_arg6 : FVec F S1024x1024 .f32) (main_arg7 : FVec F S1024 .f32) : IVec S1 1 :=
  let main_cst : FVec F S_ .f32 := constant S_ .f32 0x7F800000#32
  let main_v0 : FVec F S1 .f32 := broadcastInDim S1 ![] bcast_S_S1 main_cst
  let main_v1 : IVec S1 1 := cmpf .olt main_arg2 main_v0
  main_v1
-- ==== Kernel.lean ====
abbrev S1x1x1024 : Shape := ⟨3, ![1, 1, 1024]⟩
abbrev S1 : Shape := ⟨1, ![1]⟩
abbrev S15 : Shape := ⟨1, ![15]⟩
abbrev S15x2048x1024 : Shape := ⟨3, ![15, 2048, 1024]⟩
abbrev S1024x1024 : Shape := ⟨2, ![1024, 1024]⟩
abbrev S1024 : Shape := ⟨1, ![1024]⟩
abbrev S1x1024 : Shape := ⟨2, ![1, 1024]⟩
abbrev S1x2048x1024 : Shape := ⟨3, ![1, 2048, 1024]⟩
abbrev S_ : Shape := ⟨0, ![]⟩
abbrev S2048x1024 : Shape := ⟨2, ![2048, 1024]⟩
abbrev S1x2048 : Shape := ⟨2, ![1, 2048]⟩
abbrev S1x64 : Shape := ⟨2, ![1, 64]⟩
abbrev S1x1x2048 : Shape := ⟨3, ![1, 1, 2048]⟩
abbrev S1x1x1 : Shape := ⟨3, ![1, 1, 1]⟩
abbrev S1x1x64 : Shape := ⟨3, ![1, 1, 64]⟩
abbrev S64x64 : Shape := ⟨2, ![64, 64]⟩

abbrev nBuf : Space → Nat
  | .hbm => 12
  | .vmem => 9
  | .smem => 3
  | _ => 0

abbrev bufTy : (tb : Table) → Fin (tcTables nBuf tb) → BufTy
  | .hbm, ⟨0, _⟩ => ⟨S1x1x1024, .f32⟩
  | .hbm, ⟨1, _⟩ => ⟨S1x1x1024, .f32⟩
  | .hbm, ⟨2, _⟩ => ⟨S1, .f32⟩
  | .hbm, ⟨3, _⟩ => ⟨S15, .f32⟩
  | .hbm, ⟨4, _⟩ => ⟨S15x2048x1024, .f32⟩
  | .hbm, ⟨5, _⟩ => ⟨S15x2048x1024, .f32⟩
  | .hbm, ⟨6, _⟩ => ⟨S1024x1024, .f32⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S15, .i32⟩
  | .hbm, ⟨11, _⟩ => ⟨S1x1024, .f32⟩
  | .local _ .vmem, ⟨0, _⟩ => ⟨S1x1024, .f32⟩
  | .local _ .vmem, ⟨1, _⟩ => ⟨S1x2048x1024, .f32⟩
  | .local _ .vmem, ⟨2, _⟩ => ⟨S1x2048x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .smem, ⟨0, _⟩ => ⟨S1, .f32⟩
  | .local _ .smem, ⟨1, _⟩ => ⟨S15, .f32⟩
  | .local _ .smem, ⟨2, _⟩ => ⟨S15, .i32⟩
  | _, _ => ⟨S1x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg7_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_stg0_0 : Ref sig .tc := ⟨.smem, 0, rfl⟩
abbrev cc0_stg1_0 : Ref sig .tc := ⟨.smem, 1, rfl⟩
abbrev cc0_stg6_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem7_0 : DmaSem sig := 8

abbrev nD : Nat := 1
abbrev τ : Topo := Topo.v7x

variable {F : FTy → Type} [FloatOps F]

abbrev grid0 : Pipeline.Grid := ⟨1, ![15], ![false]⟩

def k0_off1 (i : grid0.Coords) : Fin 1 → Nat :=
  let arg0 : BitVec 32 := BitVec.ofNat 32 (i 0).val
  let v1235 : Index := Scalar.indexCast arg0
  ![v1235.toNat]
def k0_off2 (i : grid0.Coords) (v1256 : BitVec 32) : Fin 3 → Nat :=
  let arg0 : BitVec 32 := BitVec.ofNat 32 (i 0).val
  let c0_i32_272 : BitVec 32 := 0#32
  ![arg0.toNat, v1256.toNat, 0]

def k0_chk1 (i : grid0.Coords) (v1256 : BitVec 32) : Prop :=
  (∀ a, (k0_off2 i v1256) a + S1x1x1024.size a ≤ S15x2048x1024.size a)
theorem k0_off2_inb : ∀ (i : grid0.Coords) (v1256 : BitVec 32) (k0_hw1 : k0_chk1 i v1256), ∀ a, (k0_off2 i v1256) a + S1x1x1024.size a ≤ S15x2048x1024.size a := fun i v1256 k0_hw1 => k0_hw1

def k0_cond2 (i : grid0.Coords) : BitVec 1 :=
  let arg0 : BitVec 32 := BitVec.ofNat 32 (i 0).val
  let c14_i32_283 : BitVec 32 := 14#32
  let v1277 : BitVec 1 := Scalar.cmpi .eq arg0 c14_i32_283
  let v1278 : BitVec 32 := Scalar.extui v1277
  let c0_i32_284 : BitVec 32 := 0#32
  let v1279 : BitVec 1 := Scalar.cmpi .ne v1278 c0_i32_284
  v1279

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S15 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S15 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S1x1x1024 : Shape := ⟨3, ![1, 1, 1024]⟩
abbrev S1 : Shape := ⟨1, ![1]⟩
abbrev S15 : Shape := ⟨1, ![15]⟩
abbrev S15x2048x1024 : Shape := ⟨3, ![15, 2048, 1024]⟩
abbrev S1024x1024 : Shape := ⟨2, ![1024, 1024]⟩
abbrev S1024 : Shape := ⟨1, ![1024]⟩
abbrev S1x2x1024 : Shape := ⟨3, ![1, 2, 1024]⟩
abbrev S1x1024 : Shape := ⟨2, ![1, 1024]⟩
abbrev S_ : Shape := ⟨0, ![]⟩
abbrev S1x2048x1024 : Shape := ⟨3, ![1, 2048, 1024]⟩
abbrev S2048x1024 : Shape := ⟨2, ![2048, 1024]⟩
abbrev S1024x2048 : Shape := ⟨2, ![1024, 2048]⟩
abbrev S1x2048 : Shape := ⟨2, ![1, 2048]⟩
abbrev S2048 : Shape := ⟨1, ![2048]⟩
abbrev S50 : Shape := ⟨1, ![50]⟩

abbrev nBuf : Space → Nat
  | .hbm => 130
  | .vmem => 0
  | .smem => 0
  | _ => 0

abbrev hbmTy0_0 (i : Nat) : BufTy := match i % 128 with
  | 0 => ⟨S1x1x1024, .f32⟩
  | 1 => ⟨S1x1x1024, .f32⟩
  | 2 => ⟨S1, .f32⟩
  | 3 => ⟨S15, .f32⟩
  | 4 => ⟨S15x2048x1024, .f32⟩
  | 5 => ⟨S15x2048x1024, .f32⟩
  | 6 => ⟨S1024x1024, .f32⟩
  | 7 => ⟨S1024, .f32⟩
  | 8 => ⟨S1x2x1024, .f32⟩
  | 9 => ⟨S1024x1024, .f32⟩
  | 10 => ⟨S1x2x1024, .f32⟩
  | 11 => ⟨S1x1x1024, .f32⟩
  | 12 => ⟨S1x2x1024, .f32⟩
  | 13 => ⟨S1x2x1024, .f32⟩
  | 14 => ⟨S1x2x1024, .f32⟩
  | 15 => ⟨S1x1x1024, .f32⟩
  | 16 => ⟨S1x1024, .f32⟩
  | 17 => ⟨S1x1024, .f32⟩
  | 18 => ⟨S_, .f32⟩
  | 19 => ⟨S_, .f32⟩
  | 20 => ⟨S_, .f32⟩
  | 21 => ⟨S_, .i32⟩
  | 22 => ⟨S15, .i32⟩
  | 23 => ⟨S_, .i32⟩
  | 24 => ⟨S15, .f32⟩
  | 25 => ⟨S15x2048x1024, .f32⟩
  | 26 => ⟨S15x2048x1024, .f32⟩
  | 27 => ⟨S_, .f32⟩
  | 28 => ⟨S1024x1024, .f32⟩
  | 29 => ⟨S1024, .f32⟩
  | 30 => ⟨S_, .i32⟩
  | 31 => ⟨S1x1024, .f32⟩
  | 32 => ⟨S1x1024, .f32⟩
  | 33 => ⟨S15, .i32⟩
  | 34 => ⟨S_, .i32⟩
  | 35 => ⟨S_, .i1⟩
  | 36 => ⟨S1, .f32⟩
  | 37 => ⟨S_, .f32⟩
  | 38 => ⟨S_, .i32⟩
  | 39 => ⟨S_, .i32⟩
  | 40 => ⟨S1x2048x1024, .f32⟩
  | 41 => ⟨S2048x1024, .f32⟩
  | 42 => ⟨S_, .i32⟩
  | 43 => ⟨S_, .i32⟩
  | 44 => ⟨S1x2048x1024, .f32⟩
  | 45 => ⟨S2048x1024, .f32⟩
  | 46 => ⟨S1024x2048, .f32⟩
  | 47 => ⟨S1x2048, .f32⟩
  | 48 => ⟨S2048, .f32⟩
  | 49 => ⟨S50, .f32⟩
  | 50 => ⟨S50, .i32⟩
  | 51 => ⟨S50, .f32⟩
  | 52 => ⟨S50, .f32⟩
  | 53 => ⟨S_, .f32⟩
  | 54 => ⟨S_, .f32⟩
  | 55 => ⟨S_, .f32⟩
  | 56 => ⟨S_, .f32⟩
  | 57 => ⟨S1, .f32⟩
  | 58 => ⟨S50, .f32⟩
  | 59 => ⟨S50, .f32⟩
  | 60 => ⟨S50, .f32⟩
  | 61 => ⟨S_, .f32⟩
  | 62 => ⟨S_, .f32⟩
  | 63 => ⟨S1, .f32⟩
  | 64 => ⟨S50, .f32⟩
  | 65 => ⟨S50, .f32⟩
  | 66 => ⟨S_, .f32⟩
  | 67 => ⟨S_, .f32⟩
  | 68 => ⟨S50, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S50, .f32⟩
  | 76 => ⟨S50, .i1⟩
  | 77 => ⟨S50, .i32⟩
  | 78 => ⟨S50, .i32⟩
  | 79 => ⟨S_, .i32⟩
  | 80 => ⟨S_, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S_, .i32⟩
  | 88 => ⟨S1, .i32⟩
  | 89 => ⟨S1, .i32⟩
  | 90 => ⟨S_, .i32⟩
  | 91 => ⟨S1, .i32⟩
  | 92 => ⟨S1, .i1⟩
  | 93 => ⟨S1, .i1⟩
  | 94 => ⟨S1, .i1⟩
  | 95 => ⟨S_, .i1⟩
  | 96 => ⟨S_, .i1⟩
  | 97 => ⟨S_, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S1, .i32⟩
  | 106 => ⟨S1, .i32⟩
  | 107 => ⟨S_, .i32⟩
  | 108 => ⟨S1, .i32⟩
  | 109 => ⟨S1, .i1⟩
  | 110 => ⟨S1, .i1⟩
  | 111 => ⟨S1, .i1⟩
  | 112 => ⟨S_, .i1⟩
  | 113 => ⟨S_, .i1⟩
  | 114 => ⟨S1024, .f32⟩
  | 115 => ⟨S1024, .i1⟩
  | 116 => ⟨S_, .f32⟩
  | 117 => ⟨S1024, .f32⟩
  | 118 => ⟨S1024, .f32⟩
  | 119 => ⟨S1x1024, .f32⟩
  | 120 => ⟨S1024x1024, .f32⟩
  | 121 => ⟨S1x1024, .f32⟩
  | 122 => ⟨S1x1024, .f32⟩
  | 123 => ⟨S1x1024, .f32⟩
  | 124 => ⟨S1x1024, .f32⟩
  | 125 => ⟨S1x1024, .f32⟩
  | 126 => ⟨S1, .i32⟩
  | 127 => ⟨S15, .i32⟩
  | _ => ⟨S1x1x1024, .f32⟩

abbrev hbmTy0_1 (i : Nat) : BufTy := match i % 128 with
  | 0 => ⟨S_, .i32⟩
  | 1 => ⟨S_, .i32⟩
  | _ => ⟨S1x1x1024, .f32⟩

abbrev hbmTy (i : Nat) : BufTy := match i / 128 with
  | 0 => hbmTy0_0 i
  | 1 => hbmTy0_1 i
  | _ => ⟨S1x1x1024, .f32⟩

abbrev bufTy : (tb : Table) → Fin (tcTables nBuf tb) → BufTy
  | .hbm, ⟨i, _⟩ => hbmTy i
  | _, _ => ⟨S1x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_c_0 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v13_3 : Ref sig .tc := ⟨.hbm, 27, rfl⟩
abbrev main_v13_4 : Ref sig .tc := ⟨.hbm, 28, rfl⟩
abbrev main_v13_5 : Ref sig .tc := ⟨.hbm, 29, rfl⟩
abbrev main_v13_6 : Ref sig .tc := ⟨.hbm, 30, rfl⟩
abbrev main_v13_7 : Ref sig .tc := ⟨.hbm, 31, rfl⟩
abbrev main_v13_8 : Ref sig .tc := ⟨.hbm, 32, rfl⟩
abbrev main_v13_9 : Ref sig .tc := ⟨.hbm, 33, rfl⟩
abbrev main_while0c_c_10 : Ref sig .tc := ⟨.hbm, 34, rfl⟩
abbrev main_while0c_v14 : Ref sig .tc := ⟨.hbm, 35, rfl⟩
abbrev main_while0b_call0_v0 : Ref sig .tc := ⟨.hbm, 36, rfl⟩
abbrev main_while0b_v14 : Ref sig .tc := ⟨.hbm, 37, rfl⟩
abbrev main_while0b_call1_c : Ref sig .tc := ⟨.hbm, 38, rfl⟩
abbrev main_while0b_call1_c_0 : Ref sig .tc := ⟨.hbm, 39, rfl⟩
abbrev main_while0b_call1_v0 : Ref sig .tc := ⟨.hbm, 40, rfl⟩
abbrev main_while0b_v15 : Ref sig .tc := ⟨.hbm, 41, rfl⟩
abbrev main_while0b_call2_c : Ref sig .tc := ⟨.hbm, 42, rfl⟩
abbrev main_while0b_call2_c_0 : Ref sig .tc := ⟨.hbm, 43, rfl⟩
abbrev main_while0b_call2_v0 : Ref sig .tc := ⟨.hbm, 44, rfl⟩
abbrev main_while0b_v16 : Ref sig .tc := ⟨.hbm, 45, rfl⟩
abbrev main_while0b_v17 : Ref sig .tc := ⟨.hbm, 46, rfl⟩
abbrev main_while0b_v18 : Ref sig .tc := ⟨.hbm, 47, rfl⟩
abbrev main_while0b_v19 : Ref sig .tc := ⟨.hbm, 48, rfl⟩
abbrev main_while0b_values : Ref sig .tc := ⟨.hbm, 49, rfl⟩
abbrev main_while0b_indices : Ref sig .tc := ⟨.hbm, 50, rfl⟩
abbrev main_while0b_v20 : Ref sig .tc := ⟨.hbm, 51, rfl⟩
abbrev main_while0b_v21 : Ref sig .tc := ⟨.hbm, 52, rfl⟩
abbrev main_while0b_cst_10 : Ref sig .tc := ⟨.hbm, 53, rfl⟩
abbrev main_while0b_v22 : Ref sig .tc := ⟨.hbm, 54, rfl⟩
abbrev main_while0b_cst_11 : Ref sig .tc := ⟨.hbm, 55, rfl⟩
abbrev main_while0b_v23 : Ref sig .tc := ⟨.hbm, 56, rfl⟩
abbrev main_while0b_v24 : Ref sig .tc := ⟨.hbm, 57, rfl⟩
abbrev main_while0b_v25 : Ref sig .tc := ⟨.hbm, 58, rfl⟩
abbrev main_while0b_v26 : Ref sig .tc := ⟨.hbm, 59, rfl⟩
abbrev main_while0b_v27 : Ref sig .tc := ⟨.hbm, 60, rfl⟩
abbrev main_while0b_cst_12 : Ref sig .tc := ⟨.hbm, 61, rfl⟩
abbrev main_while0b_v28 : Ref sig .tc := ⟨.hbm, 62, rfl⟩
abbrev main_while0b_v29 : Ref sig .tc := ⟨.hbm, 63, rfl⟩
abbrev main_while0b_v30 : Ref sig .tc := ⟨.hbm, 64, rfl⟩
abbrev main_while0b_v31 : Ref sig .tc := ⟨.hbm, 65, rfl⟩
abbrev main_while0b_call3_call0_cst : Ref sig .tc := ⟨.hbm, 66, rfl⟩
abbrev main_while0b_call3_call0_v0 : Ref sig .tc := ⟨.hbm, 67, rfl⟩
abbrev main_while0b_v32 : Ref sig .tc := ⟨.hbm, 68, rfl⟩
abbrev main_while0b_cst_13 : Ref sig .tc := ⟨.hbm, 69, rfl⟩
abbrev main_while0b_cst_14 : Ref sig .tc := ⟨.hbm, 70, rfl⟩
abbrev main_while0b_call4_v0 : Ref sig .tc := ⟨.hbm, 71, rfl⟩
abbrev main_while0b_call4_v1 : Ref sig .tc := ⟨.hbm, 72, rfl⟩
abbrev main_while0b_call4_v2 : Ref sig .tc := ⟨.hbm, 73, rfl⟩
abbrev main_while0b_v33 : Ref sig .tc := ⟨.hbm, 74, rfl⟩
abbrev main_while0b_v34 : Ref sig .tc := ⟨.hbm, 75, rfl⟩
abbrev main_while0b_v35 : Ref sig .tc := ⟨.hbm, 76, rfl⟩
abbrev main_while0b_v36 : Ref sig .tc := ⟨.hbm, 77, rfl⟩
abbrev main_while0b_call5_v0 : Ref sig .tc := ⟨.hbm, 78, rfl⟩
abbrev main_while0b_call5_c : Ref sig .tc := ⟨.hbm, 79, rfl⟩
abbrev main_while0b_call5_c_0 : Ref sig .tc := ⟨.hbm, 80, rfl⟩
abbrev main_while0b_call5_v1_0 : Ref sig .tc := ⟨.hbm, 81, rfl⟩
abbrev main_while0b_v37 : Ref sig .tc := ⟨.hbm, 82, rfl⟩
abbrev main_while0b_call6_c : Ref sig .tc := ⟨.hbm, 83, rfl⟩
abbrev main_while0b_call6_v0 : Ref sig .tc := ⟨.hbm, 84, rfl⟩
abbrev main_while0b_call6_c_0 : Ref sig .tc := ⟨.hbm, 85, rfl⟩
abbrev main_while0b_call6_v1 : Ref sig .tc := ⟨.hbm, 86, rfl⟩
abbrev main_while0b_call6_v2 : Ref sig .tc := ⟨.hbm, 87, rfl⟩
abbrev main_while0b_call6_v3 : Ref sig .tc := ⟨.hbm, 88, rfl⟩
abbrev main_while0b_call6_c_1 : Ref sig .tc := ⟨.hbm, 89, rfl⟩
abbrev main_while0b_call6_c_2 : Ref sig .tc := ⟨.hbm, 90, rfl⟩
abbrev main_while0b_call6_v4 : Ref sig .tc := ⟨.hbm, 91, rfl⟩
abbrev main_while0b_call6_v5 : Ref sig .tc := ⟨.hbm, 92, rfl⟩
abbrev main_while0b_call6_v6 : Ref sig .tc := ⟨.hbm, 93, rfl⟩
abbrev main_while0b_call6_v7 : Ref sig .tc := ⟨.hbm, 94, rfl⟩
abbrev main_while0b_call6_c_3 : Ref sig .tc := ⟨.hbm, 95, rfl⟩
abbrev main_while0b_call6_v8 : Ref sig .tc := ⟨.hbm, 96, rfl⟩
abbrev main_while0b_call6_v9 : Ref sig .tc := ⟨.hbm, 97, rfl⟩
abbrev main_while0b_call6_c_4 : Ref sig .tc := ⟨.hbm, 98, rfl⟩
abbrev main_while0b_v38 : Ref sig .tc := ⟨.hbm, 99, rfl⟩
abbrev main_while0b_call7_c : Ref sig .tc := ⟨.hbm, 100, rfl⟩
abbrev main_while0b_call7_v0 : Ref sig .tc := ⟨.hbm, 101, rfl⟩
abbrev main_while0b_call7_c_0 : Ref sig .tc := ⟨.hbm, 102, rfl⟩
abbrev main_while0b_call7_v1 : Ref sig .tc := ⟨.hbm, 103, rfl⟩
abbrev main_while0b_call7_v2 : Ref sig .tc := ⟨.hbm, 104, rfl⟩
abbrev main_while0b_call7_v3 : Ref sig .tc := ⟨.hbm, 105, rfl⟩
abbrev main_while0b_call7_c_1 : Ref sig .tc := ⟨.hbm, 106, rfl⟩
abbrev main_while0b_call7_c_2 : Ref sig .tc := ⟨.hbm, 107, rfl⟩
abbrev main_while0b_call7_v4 : Ref sig .tc := ⟨.hbm, 108, rfl⟩
abbrev main_while0b_call7_v5 : Ref sig .tc := ⟨.hbm, 109, rfl⟩
abbrev main_while0b_call7_v6 : Ref sig .tc := ⟨.hbm, 110, rfl⟩
abbrev main_while0b_call7_v7 : Ref sig .tc := ⟨.hbm, 111, rfl⟩
abbrev main_while0b_call7_c_3 : Ref sig .tc := ⟨.hbm, 112, rfl⟩
abbrev main_while0b_call7_v8 : Ref sig .tc := ⟨.hbm, 113, rfl⟩
abbrev main_while0b_call7_v9 : Ref sig .tc := ⟨.hbm, 114, rfl⟩
abbrev main_while0b_call7_v10 : Ref sig .tc := ⟨.hbm, 115, rfl⟩
abbrev main_while0b_call7_cst : Ref sig .tc := ⟨.hbm, 116, rfl⟩
abbrev main_while0b_call7_v11 : Ref sig .tc := ⟨.hbm, 117, rfl⟩
abbrev main_while0b_v39 : Ref sig .tc := ⟨.hbm, 118, rfl⟩
abbrev main_while0b_v40 : Ref sig .tc := ⟨.hbm, 119, rfl⟩
abbrev main_while0b_v41 : Ref sig .tc := ⟨.hbm, 120, rfl⟩
abbrev main_while0b_v42 : Ref sig .tc := ⟨.hbm, 121, rfl⟩
abbrev main_while0b_v43 : Ref sig .tc := ⟨.hbm, 122, rfl⟩
abbrev main_while0b_v44 : Ref sig .tc := ⟨.hbm, 123, rfl⟩
abbrev main_while0b_v45 : Ref sig .tc := ⟨.hbm, 124, rfl⟩
abbrev main_while0b_v46 : Ref sig .tc := ⟨.hbm, 125, rfl⟩
abbrev main_while0b_call8_v0 : Ref sig .tc := ⟨.hbm, 126, rfl⟩
abbrev main_while0b_v47 : Ref sig .tc := ⟨.hbm, 127, rfl⟩
abbrev main_while0b_c_15 : Ref sig .tc := ⟨.hbm, 128, rfl⟩
abbrev main_while0b_v48 : Ref sig .tc := ⟨.hbm, 129, rfl⟩

abbrev nD : Nat := 1
abbrev τ : Topo := Topo.v7x

variable {F : FTy → Type} [FloatOps F]

abbrev main_while0_count : Scf.Loop 32 := ⟨0#32, 15#32, 1#32⟩
-- ==== Proof.Model.lean ====
/-
  The kernel's body as a short program over named pure functions. The printed body repeats one selection step fifty
  times; here the step is one function, the repetition a recursion on the number of steps, and `body_eq_flat` says that the
  printed body is the short one. Everything is stated at any number format `F`.
-/
module

public import proofs.«01_k».proof.KernelIdeal
public import proofs.«01_k».proof.Proof.Gen.KernelIdeal
public import proofs.«01_k».proof.Proof.Gen.KernelIdeal.Skeleton
public import Idealize.ShloMosaic.Lib.Tactic

@[expose] public section

noncomputable section

namespace Cert.KernelIdeal.Model

open Cert.KernelIdeal Cert.KernelIdeal.Gen
open Idealize.ShloMosaic Idealize.ShloMosaic.TcCoe
open Idealize.SL.Sem

variable {F : FTy → Type} [FloatOps F]

/-- Minus infinity, as the kernel writes it. -/
def negInf : F .f32 := Scalar.ofBits .f32 0xFF800000#32
/-- The lane numbers 0 … 2047 of a row of logits. -/
def lanes : IVec S1x2048 32 := iota .tc S1x2048 32 [1] iota_S1x2048_d1_w32
/-- The lane numbers 0 … 63 of a row of selected values. -/
def slots : IVec S1x64 32 := iota .tc S1x64 32 [1] iota_S1x64_d1_w32

/-- The largest entry of a row of 2048. -/
def rowMax (w : FVec F S1x2048 .f32) : F .f32 :=
  extractAt ![0, 0, 0] (shapeCast S1x1x1 (multiReduction .maximumf [1, 2] S1 (shapeCast S1x1x2048 w shapeCasts_S1x2048_S1x1x2048)
    0xFF800000#32 reduces_S1x1x2048_S1 (.inl rfl) rfl) shapeCasts_S1_S1x1x1) inpos_S1x1x1_p0_0_0
/-- The smallest entry of a row of 2048 words. -/
def rowMin (w : IVec S1x2048 32) : BitVec 32 :=
  extractAt ![0, 0, 0] (shapeCast S1x1x1 (multiReductionI .minsi [1, 2] S1 (shapeCast S1x1x2048 w shapeCasts_S1x2048_S1x1x2048)
    2147483647#32 reduces_S1x1x2048_S1 rfl) shapeCasts_S1_S1x1x1) inpos_S1x1x1_p0_0_0
/-- The first lane that holds the row's largest entry (2047 if no lane compares equal to it). -/
def rowArg (w : FVec F S1x2048 .f32) : BitVec 32 :=
  rowMin (select (cmpf .oeq w (broadcast S1x2048 (rowMax w))) lanes (broadcast S1x2048 2047#32))
/-- The row with its selected lane overwritten by minus infinity. -/
def strike (w : FVec F S1x2048 .f32) : FVec F S1x2048 .f32 :=
  select (cmpi .eq lanes (broadcast S1x2048 (rowArg w))) (broadcast S1x2048 negInf) w
/-- The row of logits after `n` selection steps. -/
def work (l : FVec F S1x2048 .f32) : ℕ → FVec F S1x2048 .f32
  | 0 => l
  | n + 1 => strike (work l n)
/-- The selected values after `n` steps; the slots not yet reached hold minus infinity. -/
def vals (l : FVec F S1x2048 .f32) : ℕ → FVec F S1x64 .f32
  | 0 => broadcast S1x64 negInf
  | n + 1 => select (cmpi .eq slots (broadcast S1x64 (BitVec.ofNat 32 n))) (broadcast S1x64 (rowMax (work l n))) (vals l n)
/-- The selected lanes after `n` steps; the slots not yet reached hold 0. -/
def idxs (l : FVec F S1x2048 .f32) : ℕ → IVec S1x64 32
  | 0 => broadcast S1x64 0#32
  | n + 1 => select (cmpi .eq slots (broadcast S1x64 (BitVec.ofNat 32 n))) (broadcast S1x64 (rowArg (work l n))) (idxs l n)

/-- The largest, the sum, the smallest and the sum of a row of 64. -/
def max64 (w : FVec F S1x64 .f32) : F .f32 :=
  extractAt ![0, 0, 0] (shapeCast S1x1x1 (multiReduction .maximumf [1, 2] S1 (shapeCast S1x1x64 w shapeCasts_S1x64_S1x1x64)
    0xFF800000#32 reduces_S1x1x64_S1 (.inl rfl) rfl) shapeCasts_S1_S1x1x1) inpos_S1x1x1_p0_0_0
@[inherit_doc max64] def sum64 (w : FVec F S1x64 .f32) : F .f32 :=
  extractAt ![0, 0, 0] (shapeCast S1x1x1 (multiReduction .add [1, 2] S1 (shapeCast S1x1x64 w shapeCasts_S1x64_S1x1x64)
    0x00000000#32 reduces_S1x1x64_S1 (.inl rfl) rfl) shapeCasts_S1_S1x1x1) inpos_S1x1x1_p0_0_0
@[inherit_doc max64] def min64 (w : IVec S1x64 32) : BitVec 32 :=
  extractAt ![0, 0, 0] (shapeCast S1x1x1 (multiReductionI .minsi [1, 2] S1 (shapeCast S1x1x64 w shapeCasts_S1x64_S1x1x64)
    2147483647#32 reduces_S1x1x64_S1 rfl) shapeCasts_S1_S1x1x1) inpos_S1x1x1_p0_0_0
@[inherit_doc max64] def total64 (w : IVec S1x64 32) : BitVec 32 :=
  extractAt ![0, 0, 0] (shapeCast S1x1x1 (multiReductionI .add [1, 2] S1 (shapeCast S1x1x64 w shapeCasts_S1x64_S1x1x64)
    0#32 reduces_S1x1x64_S1 rfl) shapeCasts_S1_S1x1x1) inpos_S1x1x1_p0_0_0

/-- The selected values over the temperature, the latter at least 1e-5. -/
def scaled (v : FVec F S1x64 .f32) (temp : F .f32) : FVec F S1x64 .f32 :=
  divf v (broadcast S1x64 (Scalar.maximumf temp (Scalar.ofBits .f32 0x3727C5AC#32)))
/-- The exponentials of the entries less the largest. -/
def expo (x : FVec F S1x64 .f32) : FVec F S1x64 .f32 := exp (subf x (broadcast S1x64 (max64 x)))
/-- Each entry over the sum of all. -/
def norm (e : FVec F S1x64 .f32) : FVec F S1x64 .f32 := divf e (broadcast S1x64 (sum64 e))
/-- The 64 × 64 matrix of ones on and above the diagonal. -/
def tri : FVec F S64x64 .f32 :=
  sitofp .f32 (extui 32 (cmpi .sle (iota .tc S64x64 32 [0] iota_S64x64_d0_w32) (iota .tc S64x64 32 [1] iota_S64x64_d1_w32)) natLt_1_32)
/-- The prefix sums of a row of 64, as a product with `tri`. -/
def prefixes (p : FVec F S1x64 .f32) : FVec F S1x64 .f32 :=
  matmul dot_S1x64_S64x64_S1x64_1_0_0_1_n_n (some .fp32) p tri (constant S1x64 .f32 0x00000000#32)
/-- The cumulative distribution over the selected values. -/
def cdf (v : FVec F S1x64 .f32) (temp : F .f32) : FVec F S1x64 .f32 := prefixes (norm (expo (scaled v temp)))
/-- A uniform sample brought into [1e-6, 1 - 1e-6]. -/
def clipped (u : F .f32) : F .f32 :=
  Scalar.minimumf (Scalar.ofBits .f32 0x3F7FFFEF#32) (Scalar.maximumf (Scalar.ofBits .f32 0x358637BD#32) u)
/-- The first slot whose entry reaches `s`, 64 if none does. -/
def firstHit (cd : FVec F S1x64 .f32) (s : F .f32) : BitVec 32 :=
  min64 (select (cmpf .oge cd (broadcast S1x64 s)) slots (broadcast S1x64 64#32))
/-- The same with 0 for 64. -/
def choice (cd : FVec F S1x64 .f32) (s : F .f32) : BitVec 32 :=
  Scalar.select (Scalar.cmpi .eq (firstHit cd s) 64#32) 0#32 (firstHit cd s)
/-- The lane number kept in slot `ch`. -/
def pick (ix : IVec S1x64 32) (ch : BitVec 32) : BitVec 32 :=
  total64 (select (cmpi .eq slots (broadcast S1x64 ch)) ix (broadcast S1x64 0#32))

/-- The logits of a state against one head. -/
def logits (h : Vec F S1x1024 .f32) (head : Vec F S1x2048x1024 .f32) : FVec F S1x2048 .f32 := k0_pay6 h head
/-- The code sampled from a state, a head, the temperature and a uniform sample. -/
def sample (h : Vec F S1x1024 .f32) (head : Vec F S1x2048x1024 .f32) (temp u : F .f32) : BitVec 32 :=
  pick (idxs (logits h head) 50) (choice (cdf (vals (logits h head) 50) temp) (clipped u))

/-- The body over those functions: fetch the weights, set the state up at the first point, sample a code, bring its
    row in, add the row to the sum and step the state, and at the last point write the sum out. -/
def flat (i : grid0.Coords) (arg1 : Memref sig .tc .smem S1 .f32) (arg2 : Memref sig .tc .smem S15 .f32) (arg3 : Memref sig .tc .vmem S1x1024 .f32) (arg4 : Memref sig .tc .vmem S1x2048x1024 .f32) (arg5 : Memref sig .tc .vmem S1024x1024 .f32) (arg6 : Memref sig .tc .vmem S1x1024 .f32) (arg7 : Memref sig .tc .hbm S15x2048x1024 .f32) (arg8 : Memref sig .tc .smem S15 .i32) (arg9 : Memref sig .tc .vmem S1x1024 .f32) (arg10 : Memref sig .tc .vmem S1x1024 .f32) (arg11 : Memref sig .tc .vmem S1x1024 .f32) (arg12 : Memref sig .tc .vmem S1x1024 .f32) (harg12 : arg12.IsWhole) (arg13 : DmaSems sig S_) :
    Prog (TpuEff nD τ sig (Elt F) Λ₀ .tc) PUnit := do
  let wt : Vec F S1024x1024 .f32 ← Prog.lift (.load arg5 (Rect.unit (s := S1024x1024) ![0, 0] S1024x1024.size inb_S1024x1024_S1024x1024_0_0).toLoadRect (View.loadsAt_vmem h_S1024x1024))
  let bt : Vec F S1x1024 .f32 ← Prog.lift (.load arg6 (Rect.unit (s := S1x1024) ![0, 0] S1x1024.size inb_S1x1024_S1x1024_0_0).toLoadRect (View.loadsAt_vmem h_S1x1024))
  if k0_h1 : Scalar.cmpi .ne (Scalar.extui (Scalar.cmpi .eq (BitVec.ofNat 32 (i 0).val) 0#32) : BitVec 32) 0#32 = 1#1 then do
    let code0 : Vec F S1x1024 .f32 ← Prog.lift (.load arg3 (Rect.unit (s := S1x1024) ![0, 0] S1x1024.size inb_S1x1024_S1x1024_0_0).toLoadRect (View.loadsAt_vmem h_S1x1024))
    let _h : Vec F S1x1024 .f32 ← Prog.lift (.load arg10 (Rect.unit (s := S1x1024) ![0, 0] S1x1024.size inb_S1x1024_S1x1024_0_0).toLoadRect (View.loadsAt_vmem h_S1x1024))
    Prog.lift (.store arg10 (Rect.unit (s := S1x1024) ![0, 0] S1x1024.size inb_S1x1024_S1x1024_0_0) (k0_pay4 wt bt code0) Finset.univ (View.stores_vmem_bits_univ h_S1x1024 rfl) (.inl rfl))
    let _a : Vec F S1x1024 .f32 ← Prog.lift (.load arg11 (Rect.unit (s := S1x1024) ![0, 0] S1x1024.size inb_S1x1024_S1x1024_0_0).toLoadRect (View.loadsAt_vmem h_S1x1024))
    Prog.lift (.store arg11 (Rect.unit (s := S1x1024) ![0, 0] S1x1024.size inb_S1x1024_S1x1024_0_0) (k0_pay5 code0) Finset.univ (View.stores_vmem_bits_univ h_S1x1024 rfl) (.inl rfl))
    pure ⟨⟩
  else do
    pure ⟨⟩
  let h : Vec F S1x1024 .f32 ← Prog.lift (.load arg10 (Rect.unit (s := S1x1024) ![0, 0] S1x1024.size inb_S1x1024_S1x1024_0_0).toLoadRect (View.loadsAt_vmem h_S1x1024))
  let head : Vec F S1x2048x1024 .f32 ← Prog.lift (.load arg4 (Rect.unit (s := S1x2048x1024) ![0, 0, 0] S1x2048x1024.size inb_S1x2048x1024_S1x2048x1024_0_0_0).toLoadRect (View.loadsAt_vmem h_S1x2048x1024))
  let temp : Elt F .f32 ← smemLoad arg1 (Rect.unit (s := S1) ![0] S1.size inb_S1_S1_0) numel1_S1 rfl
  let u : Elt F .f32 ← smemLoad arg2 (Rect.unit (s := S15) (k0_off1 i) S1.size (k0_off1_inb i)) numel1_S1 rfl
  have k0_hw1 : k0_chk1 i (sample h head temp u) := (← Prog.lift (TpuEff.assume (k0_chk1 i (sample h head temp u)) (k0_chk1.dec i (sample h head temp u)))).down
  let _c : Elt F .i32 ← smemLoad arg8 (Rect.unit (s := S15) (k0_off1 i) S1.size (k0_off1_inb i)) numel1_S1 rfl
  Prog.lift (.store arg8 (Rect.unit (s := S15) (k0_off1 i) S1.size (k0_off1_inb i)) (fun _ => sample h head temp u) Finset.univ (View.stores_smem_one rfl numel1_S1) (.inl rfl))
  Prog.lift (.enqueueDma ((arg7.slice (Rect.unit (s := S15x2048x1024) (k0_off2 i (sample h head temp u)) S1x1x1024.size (k0_off2_inb i (sample h head temp u) k0_hw1)) (fun _ => rfl)).squeeze S1x1024 squeezes_S1x1x1024_S1x1024) (.here arg12) (.dma arg13.sem) ((View.wordExact_bits rfl).reshape _ _) harg12.wordExact ⟨Or.inl rfl, trivial⟩)
  Prog.lift (.waitDma2 arg13.sem ((arg7.slice (Rect.unit (s := S15x2048x1024) (k0_off2 i (sample h head temp u)) S1x1x1024.size (k0_off2_inb i (sample h head temp u) k0_hw1)) (fun _ => rfl)).squeeze S1x1024 squeezes_S1x1x1024_S1x1024) arg12 ((View.wordExact_bits rfl).reshape _ _) harg12.wordExact)
  let row : Vec F S1x1024 .f32 ← Prog.lift (.load arg12 (Rect.unit (s := S1x1024) ![0, 0] S1x1024.size inb_S1x1024_S1x1024_0_0).toLoadRect (View.loadsAt_vmem h_S1x1024))
  let acc : Vec F S1x1024 .f32 ← Prog.lift (.load arg11 (Rect.unit (s := S1x1024) ![0, 0] S1x1024.size inb_S1x1024_S1x1024_0_0).toLoadRect (View.loadsAt_vmem h_S1x1024))
  let _a : Vec F S1x1024 .f32 ← Prog.lift (.load arg11 (Rect.unit (s := S1x1024) ![0, 0] S1x1024.size inb_S1x1024_S1x1024_0_0).toLoadRect (View.loadsAt_vmem h_S1x1024))
  Prog.lift (.store arg11 (Rect.unit (s := S1x1024) ![0, 0] S1x1024.size inb_S1x1024_S1x1024_0_0) (k0_pay185 row acc) Finset.univ (View.stores_vmem_bits_univ h_S1x1024 rfl) (.inl rfl))
  let _h : Vec F S1x1024 .f32 ← Prog.lift (.load arg10 (Rect.unit (s := S1x1024) ![0, 0] S1x1024.size inb_S1x1024_S1x1024_0_0).toLoadRect (View.loadsAt_vmem h_S1x1024))
  Prog.lift (.store arg10 (Rect.unit (s := S1x1024) ![0, 0] S1x1024.size inb_S1x1024_S1x1024_0_0) (k0_pay1 (k0_pay186 wt (k0_pay2 bt) row)) Finset.univ (View.stores_vmem_bits_univ h_S1x1024 rfl) (.inl rfl))
  if k0_h2 : k0_cond2 i = 1#1 then do
    let sum : Vec F S1x1024 .f32 ← Prog.lift (.load arg11 (Rect.unit (s := S1x1024) ![0, 0] S1x1024.size inb_S1x1024_S1x1024_0_0).toLoadRect (View.loadsAt_vmem h_S1x1024))
    let _o : Vec F S1x1024 .f32 ← Prog.lift (.load arg9 (Rect.unit (s := S1x1024) ![0, 0] S1x1024.size inb_S1x1024_S1x1024_0_0).toLoadRect (View.loadsAt_vmem h_S1x1024))
    Prog.lift (.store arg9 (Rect.unit (s := S1x1024) ![0, 0] S1x1024.size inb_S1x1024_S1x1024_0_0) sum Finset.univ (View.stores_vmem_bits_univ h_S1x1024 rfl) (.inl rfl))
    pure ⟨⟩
  else do
    pure ⟨⟩
  pure ⟨⟩

set_option maxRecDepth 100000 in
set_option maxHeartbeats 0 in
/-- The printed body is `flat`. -/
theorem body_eq_flat (i : grid0.Coords) (arg1 : Memref sig .tc .smem S1 .f32) (harg1 : arg1.IsWhole) (arg2 : Memref sig .tc .smem S15 .f32) (harg2 : arg2.IsWhole) (arg3 : Memref sig .tc .vmem S1x1024 .f32) (harg3 : arg3.IsWhole) (arg4 : Memref sig .tc .vmem S1x2048x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .hbm S15x2048x1024 .f32) (harg7 : arg7.IsWhole) (arg8 : Memref sig .tc .smem S15 .i32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : DmaSems sig S_) :
    cc0__body (F := F) i arg1 harg1 arg2 harg2 arg3 harg3 arg4 harg4 arg5 harg5 arg6 harg6 arg7 harg7 arg8 harg8 arg9 harg9 arg10 harg10 arg11 harg11 arg12 harg12 arg13
      = flat i arg1 arg2 arg3 arg4 arg5 arg6 arg7 arg8 arg9 arg10 arg11 arg12 harg12 arg13 := by
  unfold cc0__body flat k0_part1
  by_cases h : Scalar.cmpi .ne (Scalar.extui (Scalar.cmpi .eq (BitVec.ofNat 32 (i 0).val) 0#32) : BitVec 32) 0#32 = 1#1
  · simp only [dif_pos h]
    sl_kernel_rfl
  · simp only [dif_neg h]
    sl_kernel_rfl

end Cert.KernelIdeal.Model

end
-- ==== Proof.Reads.lean ====
/-
  What the body's integer functions hold, entry by entry, at any number format: lane numbers, the smallest of a row,
  the selected lanes, the code picked, and that the code names a row of a table of 2048.
-/
module

public import proofs.«01_k».proof.Proof.Model
public import Idealize.ShloMosaic.Lib.Pointwise
public import Idealize.ShloMosaic.Lib.ValueIdx
public import Mathlib.Data.BitVec

@[expose] public section

noncomputable section

namespace Cert.KernelIdeal.Model

open Cert.KernelIdeal Cert.KernelIdeal.Gen
open Idealize.ShloMosaic Idealize.ShloMosaic.TcCoe
open Idealize.SL.Sem

variable {F : FTy → Type} [FloatOps F]

/-- A fold over pairs whose first half is the only number below one is the fold over the second halves. -/
theorem fold_unit_pair {α : Type} {n : ℕ} (op : α → α → α) [Std.Commutative op] [Std.Associative op] (b : α) (f : Fin n → α) :
    Finset.fold op b (fun x : Fin 1 × Fin n => f x.2) Finset.univ = Finset.fold op b f Finset.univ := by
  have : (Finset.univ : Finset (Fin 1 × Fin n)) = Finset.univ.map ⟨fun k => ((0 : Fin 1), k), fun a b h => (Prod.mk.inj h).2⟩ := by
    ext x
    simp only [Finset.mem_univ, Finset.mem_map, Function.Embedding.coeFn_mk, true_and, true_iff]
    exact ⟨x.2, Prod.ext (Subsingleton.elim _ _) rfl⟩
  rw [this, Finset.fold_map]; rfl

theorem rowMin_eq (w : IVec S1x2048 32) : rowMin w = Finset.univ.fold IntOp.minsi 2147483647#32 fun k : Fin 2048 => w (ix2 0 k) := by
  unfold rowMin
  simp only [pointwise]
  exact fold_unit_pair _ _ fun k : Fin 2048 => w (ix2 0 k)

theorem min64_eq (w : IVec S1x64 32) : min64 w = Finset.univ.fold IntOp.minsi 2147483647#32 fun k : Fin 64 => w (ix2 0 k) := by
  unfold min64
  simp only [pointwise]
  exact fold_unit_pair _ _ fun k : Fin 64 => w (ix2 0 k)

theorem total64_eq (w : IVec S1x64 32) : total64 w = ∑ k : Fin 64, w (ix2 0 k) := by
  unfold total64
  simp only [pointwise]
  exact fold_unit_pair _ _ fun k : Fin 64 => w (ix2 0 k)

theorem lanes_at (k : Fin 2048) : lanes (ix2 0 k) = BitVec.ofNat 32 k.val := by
  unfold lanes
  simp only [pointwise]
  congr 1
  simp [ix2]

theorem slots_at (k : Fin 64) : slots (ix2 0 k) = BitVec.ofNat 32 k.val := by
  unfold slots
  simp only [pointwise]
  congr 1
  simp [ix2]

/-- The signed minimum, read as integers. -/
theorem toInt_minsi (a b : BitVec 32) : (IntOp.minsi a b).toInt = min a.toInt b.toInt := by
  unfold IntOp.minsi
  split <;> rename_i h <;> simp only [BitVec.sle, decide_eq_true_eq, BitVec.slt] at h <;> omega

theorem toInt_fold_minsi {n : ℕ} (b : BitVec 32) (f : Fin n → BitVec 32) :
    (Finset.univ.fold IntOp.minsi b f).toInt = Finset.univ.fold min b.toInt fun k => (f k).toInt :=
  (Finset.fold_hom (op := IntOp.minsi) (op' := min) (m := BitVec.toInt) fun a b => toInt_minsi a b).symm

theorem toInt_ofNat {n : ℕ} (h : n < 2147483648) : (BitVec.ofNat 32 n).toInt = n := by
  rw [BitVec.toInt_eq_toNat_of_lt] <;> simp only [BitVec.toNat_ofNat] <;> omega

theorem ofNat_inj {a b : ℕ} (ha : a < 4294967296) (hb : b < 4294967296) : BitVec.ofNat 32 a = BitVec.ofNat 32 b ↔ a = b := by
  rw [← BitVec.toNat_inj]; simp only [BitVec.toNat_ofNat]; omega

/-- The smallest of the numbers `k` with `c k`, `d` standing in for the others: it is `n` when `n` is the first `k` with `c k`. -/
theorem fold_first {m : ℕ} (hm : m < 2147483648) (c : Fin m → Bool) (d : ℕ) (hd : d < 2147483648) (hmd : m ≤ d + 1) (n : Fin m)
    (hn : c n = true) (hlt : ∀ k < n, c k = false) :
    (Finset.univ.fold IntOp.minsi 2147483647#32 fun k : Fin m => if c k then BitVec.ofNat 32 k.val else BitVec.ofNat 32 d) = BitVec.ofNat 32 n.val := by
  apply BitVec.eq_of_toInt_eq
  rw [toInt_fold_minsi, toInt_ofNat (n := n.val) (by omega)]
  apply le_antisymm
  · rw [Finset.fold_min_le]
    right; exact ⟨n, Finset.mem_univ _, by rw [if_pos hn, toInt_ofNat (by omega)]⟩
  · rw [Finset.le_fold_min]
    refine ⟨by have : (2147483647#32 : BitVec 32).toInt = 2147483647 := by decide
               rw [this]; omega, fun k _ => ?_⟩
    by_cases hk : c k = true
    · rw [if_pos hk, toInt_ofNat (by omega)]
      by_contra h
      have : k < n := by simp only [Fin.lt_def]; omega
      rw [hlt k this] at hk; exact absurd hk (by decide)
    · rw [if_neg hk, toInt_ofNat hd]; omega

/-- With no `k` of the kind there, it is `d`. -/
theorem fold_none {m : ℕ} (h0 : 0 < m) (c : Fin m → Bool) (d : ℕ) (hd : d < 2147483648) (hc : ∀ k, c k = false) :
    (Finset.univ.fold IntOp.minsi 2147483647#32 fun k : Fin m => if c k then BitVec.ofNat 32 k.val else BitVec.ofNat 32 d) = BitVec.ofNat 32 d := by
  apply BitVec.eq_of_toInt_eq
  rw [toInt_fold_minsi, toInt_ofNat hd]
  apply le_antisymm
  · rw [Finset.fold_min_le]
    right; exact ⟨⟨0, h0⟩, Finset.mem_univ _, by rw [if_neg (by rw [hc]; decide), toInt_ofNat hd]⟩
  · rw [Finset.le_fold_min]
    refine ⟨by have : (2147483647#32 : BitVec 32).toInt = 2147483647 := by decide
               rw [this]; omega, fun k _ => ?_⟩
    rw [if_neg (by rw [hc]; decide), toInt_ofNat hd]

/-- Either there is a first one or there is none. -/
theorem first_or_none {m : ℕ} (c : Fin m → Bool) : (∃ n, c n = true ∧ ∀ k < n, c k = false) ∨ ∀ k, c k = false := by
  by_cases h : ∃ n, c n = true
  · left
    obtain ⟨n, hn, hmin⟩ := WellFounded.has_min (wellFounded_lt (α := Fin m)) {n | c n = true} h
    exact ⟨n, hn, fun k hk => by
      by_contra h'
      exact hmin k (by simpa using h') hk⟩
  · right; intro k; by_contra h'; exact h ⟨k, by simpa using h'⟩

/-- Whether lane `k` compares equal to the row's largest entry. -/
def isMax (w : FVec F S1x2048 .f32) (k : Fin 2048) : Bool := FloatOps.cmpf .oeq (w (ix2 0 k)) (rowMax w) = 1#1

theorem rowArg_eq (w : FVec F S1x2048 .f32) :
    rowArg w = Finset.univ.fold IntOp.minsi 2147483647#32 fun k : Fin 2048 => if isMax w k then BitVec.ofNat 32 k.val else BitVec.ofNat 32 2047 := by
  unfold rowArg
  rw [rowMin_eq]
  congr 1; funext k
  simp only [pointwise, lanes_at, isMax, Scalar.select, decide_eq_true_eq]
  rfl

/-- The selected lane is one of the 2048. -/
theorem rowArg_lt (w : FVec F S1x2048 .f32) : ∃ n : Fin 2048, rowArg w = BitVec.ofNat 32 n.val := by
  rw [rowArg_eq]
  rcases first_or_none (isMax w) with ⟨n, hn, hlt⟩ | h
  · exact ⟨n, fold_first (by decide) _ _ (by decide) (by decide) n hn hlt⟩
  · exact ⟨2047, fold_none (by decide) _ _ (by decide) h⟩

theorem select_eq {α : Type} (a b : BitVec 32) (x y : α) : Scalar.select (IntOp.cmpi .eq a b) x y = if a = b then x else y := by
  by_cases h : a = b
  · simp [Scalar.select, IntOp.cmpi, h]
  · have : (a == b) = false := by simpa using h
    simp [Scalar.select, IntOp.cmpi, h, this]

/-- A selected slot: slot `n` holds what step `n` put there, the others are as before. -/
theorem put_at {α : Type} (n : ℕ) (hn : n < 64) (k : Fin 64) (x : α) (v : S1x64.Idx → α) :
    select (cmpi .eq slots (broadcast S1x64 (BitVec.ofNat 32 n))) (broadcast S1x64 x) v (ix2 0 k) = if k.val = n then x else v (ix2 0 k) := by
  simp only [pointwise, slots_at, select_eq, ofNat_inj (a := k.val) (b := n) (by omega) (by omega)]

theorem idxs_at (l : FVec F S1x2048 .f32) (n : ℕ) (hn : n ≤ 64) (k : Fin 64) :
    idxs l n (ix2 0 k) = if k.val < n then rowArg (work l k.val) else 0#32 := by
  induction n with
  | zero => simp only [idxs, pointwise]; simp
  | succ n ih =>
    rw [idxs, put_at n (by omega), ih (by omega)]
    by_cases h : k.val = n
    · rw [if_pos h, if_pos (by omega), h]
    · rw [if_neg h]; simp only [show (k.val < n + 1) = (k.val < n) by simp; omega]

theorem vals_at (l : FVec F S1x2048 .f32) (n : ℕ) (hn : n ≤ 64) (k : Fin 64) :
    vals l n (ix2 0 k) = if k.val < n then rowMax (work l k.val) else negInf := by
  induction n with
  | zero => simp only [vals, pointwise]; simp
  | succ n ih =>
    rw [vals, put_at n (by omega), ih (by omega)]
    by_cases h : k.val = n
    · rw [if_pos h, if_pos (by omega), h]
    · rw [if_neg h]; simp only [show (k.val < n + 1) = (k.val < n) by simp; omega]

/-- The kept lane of slot `ch`, for a slot there is. -/
theorem pick_at (ix : IVec S1x64 32) (ch : Fin 64) : pick ix (BitVec.ofNat 32 ch.val) = ix (ix2 0 ch) := by
  unfold pick
  rw [total64_eq, Finset.sum_eq_single ch]
  · simp only [pointwise, slots_at, select_eq, if_true]
  · intro k _ hk
    have : ¬ BitVec.ofNat 32 k.val = BitVec.ofNat 32 ch.val := by
      rw [ofNat_inj (by omega) (by omega)]; exact fun h => hk (Fin.ext h)
    simp only [pointwise, slots_at, select_eq, if_neg this]; rfl
  · intro h; exact absurd (Finset.mem_univ _) h

/-- Whether slot `k` reaches `s`. -/
def reaches (cd : FVec F S1x64 .f32) (s : F .f32) (k : Fin 64) : Bool := FloatOps.cmpf .oge (cd (ix2 0 k)) s = 1#1

theorem firstHit_eq (cd : FVec F S1x64 .f32) (s : F .f32) :
    firstHit cd s = Finset.univ.fold IntOp.minsi 2147483647#32 fun k : Fin 64 => if reaches cd s k then BitVec.ofNat 32 k.val else BitVec.ofNat 32 64 := by
  unfold firstHit
  rw [min64_eq]
  congr 1; funext k
  simp only [pointwise, slots_at, reaches, Scalar.select, decide_eq_true_eq]
  rfl

/-- The slot chosen: the first that reaches `s`. -/
theorem choice_first (cd : FVec F S1x64 .f32) (s : F .f32) (n : Fin 64) (hn : reaches cd s n = true) (hlt : ∀ k < n, reaches cd s k = false) :
    choice cd s = BitVec.ofNat 32 n.val := by
  have h := fold_first (by decide) (reaches cd s) 64 (by decide) (by decide) n hn hlt
  rw [← firstHit_eq] at h
  have h64 : ¬ BitVec.ofNat 32 n.val = 64#32 := by
    rw [ofNat_inj (by omega) (by omega)]; omega
  simp only [choice, Scalar.cmpi, select_eq, h, if_neg h64]

/-- The slot chosen when none reaches `s`: slot 0. -/
theorem choice_none (cd : FVec F S1x64 .f32) (s : F .f32) (h : ∀ k, reaches cd s k = false) : choice cd s = BitVec.ofNat 32 0 := by
  have h := fold_none (by decide) (reaches cd s) 64 (by decide) h
  rw [← firstHit_eq] at h
  simp only [choice, Scalar.cmpi, select_eq, h]; simp

/-- The slot chosen is one of the 64. -/
theorem choice_lt (cd : FVec F S1x64 .f32) (s : F .f32) : ∃ n : Fin 64, choice cd s = BitVec.ofNat 32 n.val := by
  rcases first_or_none (reaches cd s) with ⟨n, hn, hlt⟩ | h
  · exact ⟨n, choice_first cd s n hn hlt⟩
  · exact ⟨0, choice_none cd s h⟩

/-- The sampled code names one of 2048 rows, whatever the numbers are. -/
theorem sample_lt (h : Vec F S1x1024 .f32) (head : Vec F S1x2048x1024 .f32) (temp u : F .f32) :
    ∃ n : Fin 2048, sample h head temp u = BitVec.ofNat 32 n.val := by
  unfold sample
  obtain ⟨n, hn⟩ := choice_lt (cdf (vals (logits h head) 50) temp) (clipped u)
  rw [hn, pick_at, idxs_at _ _ (by decide)]
  split
  · exact rowArg_lt _
  · exact ⟨0, rfl⟩

/-- So the row it names lies inside the table of embeddings. -/
theorem chk_sample (i : grid0.Coords) (h : Vec F S1x1024 .f32) (head : Vec F S1x2048x1024 .f32) (temp u : F .f32) :
    k0_chk1 i (sample h head temp u) := by
  obtain ⟨n, hn⟩ := sample_lt h head temp u
  rw [hn]
  have hi : (i 0).val < 15 := (i 0).isLt
  have hnn := n.isLt
  unfold k0_chk1 k0_off2
  intro a
  fin_cases a <;> simp <;> omega

end Cert.KernelIdeal.Model

end
-- ==== Proof.Step.lean ====
/-
  One grid point of the kernel. The carried state is a pair (the state vector, the running sum). `enter` is the state a point
  works from, `leave` the state it leaves, `codeOf` the code it samples, `tableRow` the row of the table that its copy brings
  in. `kernelRun` runs the body once, at any number format: from the staged inputs and the carried state the body reaches its
  end with the code written in its slot, the state stepped, and at the last point the sum written out.
-/
module

public import proofs.«01_k».proof.Proof.Reads
public import proofs.«01_k».proof.Proof.Gen.KernelIdeal.Frame
public import Idealize.ShloMosaic.Lib.Pipeline.Frame
public import Idealize.ShloMosaic.Lib.Tactic
public import Idealize.ShloMosaic.Lib.Transfers
public import Idealize.ShloMosaic.Lib.VecWindow
public import Idealize.ShloMosaic.Lib.CellWrites
public import Idealize.ShloMosaic.Lib.ValueLayout
public import Idealize.ShloMosaic.Lib.ViewIndex

@[expose] public section

noncomputable section

namespace Cert.KernelIdeal.Run

open Cert.KernelIdeal Cert.KernelIdeal.Gen Cert.KernelIdeal.Model
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The grid point is the first one. -/
abbrev atStart (i : grid0.Coords) : Prop :=
  Scalar.cmpi .ne (Scalar.extui (Scalar.cmpi .eq (BitVec.ofNat 32 (i 0).val) 0#32) : BitVec 32) 0#32 = 1#1

/-- The carried state: the state vector and the running sum of rows. -/
abbrev Carried (F : FTy → Type) : Type := Vec F S1x1024 .f32 × Vec F S1x1024 .f32

/-- The state a point works from: at the first point it is set up from the first embedding, later it is the one found. -/
def enter (i : grid0.Coords) (wt : Vec F S1024x1024 .f32) (bt code0 : Vec F S1x1024 .f32) (s : Carried F) : Carried F :=
  if atStart i then (k0_pay4 wt bt code0, k0_pay5 code0) else s

/-- The code a point samples from a state vector. -/
def codeOf (i : grid0.Coords) (temp : Vec F S1 .f32) (unif : Vec F S15 .f32) (head : Vec F S1x2048x1024 .f32) (h : Vec F S1x1024 .f32) : BitVec 32 :=
  sample h head (temp (ix1 0)) (unif (ix1 (i 0)))

/-- The row of the table at a point's group and a code. -/
def tableRow (i : grid0.Coords) (table : Vec F S15x2048x1024 .f32) (code : BitVec 32) : Vec F S1x1024 .f32 :=
  fun y => table (ix3 (i 0) ⟨code.toNat % 2048, Nat.mod_lt _ (by decide)⟩ (y 1))

/-- The state after a row: the next state vector and the sum with the row added. -/
def leave (wt : Vec F S1024x1024 .f32) (bt row : Vec F S1x1024 .f32) (s : Carried F) : Carried F :=
  (k0_pay1 (k0_pay186 wt (k0_pay2 bt) row), k0_pay185 row s.2)

/-- The slots of the codes after a point: its own slot holds its code, the others what they held. -/
def putCode (i : grid0.Coords) (code : BitVec 32) (y : Vec F S15 .i32) : Vec F S15 .i32 :=
  fun x => if (x 0).val = (i 0).val then code else y x

/-- The memrefs of the three scratch buffers and of the table in HBM. -/
abbrev hM : Memref sig .tc .vmem S1x1024 .f32 := Memref.whole cc0_scratch0
@[inherit_doc hM] abbrev accM : Memref sig .tc .vmem S1x1024 .f32 := Memref.whole cc0_scratch1
@[inherit_doc hM] abbrev rowM : Memref sig .tc .vmem S1x1024 .f32 := Memref.whole cc0_scratch2
@[inherit_doc hM] abbrev tabM : Memref sig .tc .hbm S15x2048x1024 .f32 := Memref.whole main_arg5
/-- A whole buffer held at contents `f` on core `c`. -/
abbrev wholePt (c : Dev nD) {sp : Space} {S : Shape} {e : EltTy} (M : Memref sig .tc sp S e) (f : Buf (Elt F) (M.view.loc (c : Thread nD τ))) : sProp 𝕄 :=
  M.view.loc (c : Thread nD τ) ↦{fullShare} f

/-- The offset of a point's slot is its number. -/
theorem off1_eq (i : grid0.Coords) : k0_off1 i = ![(i 0).val] := by
  have h : (i 0).val < 15 := (i 0).isLt
  unfold k0_off1
  simp only [Scalar.indexCast, BitVec.toNat_ofNat]
  congr 1
  omega

/-- A load of a whole row of 1024 reads what the view reads; so do those of a whole head and of the whole weight matrix. -/
theorem load_row (v : View sig .tc .vmem S1x1024 .f32) (f : v.ty.Contents (Elt F)) (h : ∀ a, ![0, 0] a + ![1, 1024] a ≤ S1x1024.size a) :
    v.readAt (Elt F) (Rect.unit (s := S1x1024) ![0, 0] ![1, 1024] h).toLoadRect f = v.read (Elt F) f := View.readAt_full v f h
@[inherit_doc load_row]
theorem load_head (v : View sig .tc .vmem S1x2048x1024 .f32) (f : v.ty.Contents (Elt F)) (h : ∀ a, ![0, 0, 0] a + ![1, 2048, 1024] a ≤ S1x2048x1024.size a) :
    v.readAt (Elt F) (Rect.unit (s := S1x2048x1024) ![0, 0, 0] ![1, 2048, 1024] h).toLoadRect f = v.read (Elt F) f := View.readAt_full v f h
@[inherit_doc load_row]
theorem load_wt (v : View sig .tc .vmem S1024x1024 .f32) (f : v.ty.Contents (Elt F)) (h : ∀ a, ![0, 0] a + ![1024, 1024] a ≤ S1024x1024.size a) :
    v.readAt (Elt F) (Rect.unit (s := S1024x1024) ![0, 0] ![1024, 1024] h).toLoadRect f = v.read (Elt F) f := View.readAt_full v f h
/-- After a store of a whole row of 1024 the view reads the row stored. -/
theorem store_row (v : View sig .tc .vmem S1x1024 .f32) (f : v.ty.Contents (Elt F)) (h : ∀ a, ![0, 0] a + ![1, 1024] a ≤ S1x1024.size a)
    (w : (Rect.unit (s := S1x1024) ![0, 0] ![1, 1024] h).shape.Idx → Elt F .f32) (L : List (View.Piece (Elt F) S1x1024 .f32)) :
    v.read (Elt F) (v.writes (Elt F) f (⟨Rect.unit (s := S1x1024) ![0, 0] ![1, 1024] h, w⟩ :: L)) = w := View.read_writes_full v f h w L

/-- A load of the temperature's one word. -/
theorem read_temp (v : View sig .tc .smem S1 .f32) (f : v.ty.Contents (Elt F)) (x : S1.Idx) :
    v.readAt (Elt F) (Rect.unit (s := S1) ![0] ![1] inb_S1_S1_0).toLoadRect f x = v.read (Elt F) f (ix1 0) := by
  refine (congrFun (View.readAt_full v f inb_S1_S1_0) x).trans (congrArg _ (Shape.idx1_ext (by have h : (x 0).val < 1 := (x 0).isLt; show (x 0).val = 0; omega)))

/-- A load of the word of the uniform samples that a point reads. -/
theorem read_unif (i : grid0.Coords) (v : View sig .tc .smem S15 .f32) (f : v.ty.Contents (Elt F)) (x : S1.Idx) :
    v.readAt (Elt F) (Rect.unit (s := S15) (k0_off1 i) ![1] (k0_off1_inb i)).toLoadRect f x = v.read (Elt F) f (ix1 (i 0)) := by
  show v.read (Elt F) f _ = _
  refine congrArg _ (Shape.idx1_ext ?_)
  have h : (x 0).val < 1 := (x 0).isLt
  show k0_off1 i 0 + 1 * (x 0).val = (i 0).val
  rw [off1_eq]
  show (i 0).val + 1 * (x 0).val = (i 0).val
  omega

/-- What a point's copy reads: the table's row at its group and code. -/
theorem read_row (i : grid0.Coords) (f : Vec F S15x2048x1024 .f32) (code : BitVec 32)
    (hk : ∀ a, k0_off2 i code a + ![1, 1, 1024] a ≤ S15x2048x1024.size a)
    (hn : S1x1024.numel = (Rect.unit (s := S15x2048x1024) (k0_off2 i code) ![1, 1, 1024] hk).shape.numel) :
    View.read (Elt F) (((View.whole main_arg5).slice (Rect.unit (s := S15x2048x1024) (k0_off2 i code) ![1, 1, 1024] hk)).reshape S1x1024 hn) f
      = tableRow i f code := by
  funext y
  have hc : code.toNat + 1 ≤ 2048 := hk 1
  have hi : (i 0).val < 15 := (i 0).isLt
  show f ((Rect.unit (s := S15x2048x1024) (k0_off2 i code) ![1, 1, 1024] hk).emb
    (Shape.reshapeEquiv hn y)) = f _
  obtain ⟨a, b, rfl⟩ : ∃ a b, y = ix2 a b := ⟨y 0, y 1, (eq_ix2 y)⟩
  rw [show Shape.reshapeEquiv hn (ix2 a b) = ix3 (0 : Fin 1) a b from ValueIdx.reshapeEquiv_ix2_1ab _ a b]
  refine congrArg f (Shape.idx3_ext ?_ ?_ ?_)
  · show (BitVec.ofNat 32 (i 0).val).toNat + 1 * 0 = (i 0).val
    rw [BitVec.toNat_ofNat]; omega
  · have ha : a.val < 1 := a.isLt
    show code.toNat + 1 * a.val = code.toNat % 2048
    omega
  · show 0 + 1 * b.val = b.val
    omega

set_option maxHeartbeats 400000 in
/-- The body run once at a grid point, for any continuation. From the inputs staged, the outputs' staging buffers, the carried
    state, the copy's semaphore at zero and the table in HBM, the body runs to its return: the inputs and the table are as they
    were, the point's code is in its slot, the sum is written out where `k0_cond2` says so, and the carried state is stepped. -/
theorem kernelRun (c : Dev nD) (i : grid0.Coords)
    (arg1 : Memref sig .tc .smem S1 .f32) (harg1 : arg1.IsWhole) (arg2 : Memref sig .tc .smem S15 .f32) (harg2 : arg2.IsWhole)
    (arg3 : Memref sig .tc .vmem S1x1024 .f32) (harg3 : arg3.IsWhole) (arg4 : Memref sig .tc .vmem S1x2048x1024 .f32) (harg4 : arg4.IsWhole)
    (arg5 : Memref sig .tc .vmem S1024x1024 .f32) (harg5 : arg5.IsWhole) (arg6 : Memref sig .tc .vmem S1x1024 .f32) (harg6 : arg6.IsWhole)
    (arg8 : Memref sig .tc .smem S15 .i32) (harg8 : arg8.IsWhole) (arg9 : Memref sig .tc .vmem S1x1024 .f32) (harg9 : arg9.IsWhole)
    (x1 : Vec F S1 .f32) (x2 : Vec F S15 .f32) (x3 : Vec F S1x1024 .f32) (x4 : Vec F S1x2048x1024 .f32) (x5 : Vec F S1024x1024 .f32)
    (x6 : Vec F S1x1024 .f32) (y8 : Vec F S15 .i32) (y9 : Vec F S1x1024 .f32) (s₀ s s' : Carried F) (code : BitVec 32)
    (table : Vec F S15x2048x1024 .f32) (hs : s = enter i x5 x6 x3 s₀) (hcode : code = codeOf i x1 x2 x4 s.1)
    (hs' : s' = leave x5 x6 (tableRow i table code) s) (W : Waits sig Unit) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ owns (c : Thread nD τ) arg6 fullShare x6
        ∗ owns (c : Thread nD τ) arg8 fullShare y8 ∗ owns (c : Thread nD τ) arg9 fullShare y9
        ∗ owns (c : Thread nD τ) hM fullShare s₀.1 ∗ owns (c : Thread nD τ) accM fullShare s₀.2 ∗ (∃ d, owns (c : Thread nD τ) rowM fullShare d)
        ∗ semVal ((c : Thread nD τ), SemLoc.dma 9) 0 ∗ wholePt c tabM table
        ∗ owes (c : Thread nD τ) 0 W
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5 ∗ owns (c : Thread nD τ) arg6 fullShare x6
            ∗ owns (c : Thread nD τ) arg8 fullShare (putCode i code y8)
            ∗ owns (c : Thread nD τ) arg9 fullShare (if k0_cond2 i = 1#1 then s'.2 else y9)
            ∗ owns (c : Thread nD τ) hM fullShare s'.1 ∗ owns (c : Thread nD τ) accM fullShare s'.2 ∗ (∃ d, owns (c : Thread nD τ) rowM fullShare d)
            ∗ semVal ((c : Thread nD τ), SemLoc.dma 9) 0 ∗ wholePt c tabM table
            ∗ ∃ W', owes (c : Thread nD τ) 0 W') -∗ K ⟨⟩))
      ⊢ wp frame (wpE (defs₀ (F := F)) Variants.none c none) Set.univ
          (cc0__body i arg1 harg1 arg2 harg2 arg3 harg3 arg4 harg4 arg5 harg5 arg6 harg6 tabM (Memref.isWhole_whole _) arg8 harg8 arg9 harg9
            hM (Memref.isWhole_whole _) accM (Memref.isWhole_whole _) rowM (Memref.isWhole_whole _) cc0_scratch3) K := by
  obtain ⟨h₀, a₀⟩ := s₀
  rw [body_eq_flat]; unfold flat
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f8, %h8, H8⟩, ⟨%f9, %h9, H9⟩, ⟨%f10, %h10, H10⟩, ⟨%f11, %h11, H11⟩, ⟨%d12, %f12, %h12, H12⟩, Hq, Hh, HW, Hk⟩
  subst h1 h2 h3 h4 h5 h6 h8 h9
  have h10' : View.read (Elt F) hM.view f10 = h₀ := h10
  have h11' : View.read (Elt F) accM.view f11 = a₀ := h11
  subst h10' h11'
  unfold enter at hs
  by_cases hc1 : atStart i <;> by_cases hc2 : k0_cond2 i = 1#1
  all_goals
    first | rw [if_pos hc1] at hs | rw [if_neg hc1] at hs
    subst hs
    sl_exec (disch := exact chk_sample _ _ _ _ _)
    sl_step
    iapply Hk
    isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    isplitl [H5]; · iexists f5; isplitr; · ipureintro; rfl
                    iexact H5
    isplitl [H6]; · iexists f6; isplitr; · ipureintro; rfl
                    iexact H6
    isplitl [H8]
    · iexists _; isplitr; swap; · iexact H8
      ipureintro
      sl_unfold_run_names
      simp only [ReadAs.apply, read_row]
      simp only [View.readCov, load_row, load_head, load_wt, store_row, View.read_writes_whole, read_temp, read_unif]
      funext x
      exact (View.read_writes_cons_cell _ _ _ _ _ x).trans (by rw [off1_eq]; subst hcode; rfl)
    isplitl [H9]
    · iexists _; isplitr; swap; · iexact H9
      ipureintro
      first
        | rw [if_neg hc2]
        | rw [if_pos hc2]
          sl_unfold_run_names
          simp only [ReadAs.apply, read_row]
          simp only [View.readCov, load_row, load_head, load_wt, store_row, View.read_writes_whole, read_temp, read_unif]
          subst hs' hcode; rfl
    isplitl [H10]
    · iexists _; isplitr; swap; · iexact H10
      ipureintro
      sl_unfold_run_names
      simp only [ReadAs.apply, read_row]
      simp only [View.readCov, load_row, load_head, load_wt, store_row, View.read_writes_whole, read_temp, read_unif]
      subst hs' hcode; rfl
    isplitl [H11]
    · iexists _; isplitr; swap; · iexact H11
      ipureintro
      sl_unfold_run_names
      simp only [ReadAs.apply, read_row]
      simp only [View.readCov, load_row, load_head, load_wt, store_row, View.read_writes_whole, read_temp, read_unif]
      subst hs' hcode; rfl
    isplitl [H12]
    · iexists _, _; isplitr; swap; · iexact H12
      ipureintro; rfl
    isplitl [Hq]; · iexact Hq
    isplitl [Hh]; · iexact Hh
    iexists _; iexact HW

end Cert.KernelIdeal.Run
end
-- ==== Proof.Launch.lean ====
/-
  The kernel's whole run. `state m c n` is the carried state before point `n` and `codeAt m c n` the code that point samples,
  both read off the launch memory. The codes live in one block that every point writes one word of, so what a point leaves
  there is stated as a relation: its own slot holds its code, the rest is as found. The launch then says that after the run
  the codes' array holds the fifteen codes, the sum's array the last sum, and everything else is as it was.
-/
module

public import proofs.«01_k».proof.Proof.Step

@[expose] public section

noncomputable section

namespace Cert.KernelIdeal.Run

open Cert.KernelIdeal Cert.KernelIdeal.Gen Cert.KernelIdeal.Model
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The state before each point -/

/-- Point `n` of the grid. -/
def pt (n : ℕ) : grid0.Coords := fun a => match a with | ⟨0, _⟩ => ⟨n % 15, Nat.mod_lt _ (by decide)⟩

/-- The arrays the kernel reads, as the region finds them. -/
def tempOf (c : Dev nD) : Vec F S1 .f32 := V m c main_arg2
@[inherit_doc tempOf] def unifOf (c : Dev nD) : Vec F S15 .f32 := V m c main_arg3
@[inherit_doc tempOf] def code0Of (c : Dev nD) : Vec F S1x1024 .f32 := V m c main_v0
@[inherit_doc tempOf] def headsOf (c : Dev nD) : Vec F S15x2048x1024 .f32 := V m c main_arg4
@[inherit_doc tempOf] def wtOf (c : Dev nD) : Vec F S1024x1024 .f32 := V m c main_arg6
@[inherit_doc tempOf] def btOf (c : Dev nD) : Vec F S1x1024 .f32 := V m c main_v1
@[inherit_doc tempOf] def tableOf (c : Dev nD) : Vec F S15x2048x1024 .f32 := V m c main_arg5

/-- One group's head out of all. -/
def headAt (heads : Vec F S15x2048x1024 .f32) (i : grid0.Coords) : Vec F S1x2048x1024 .f32 := fun y => heads (ix3 (i 0) (y 1) (y 2))

/-- The carried state before point `n`, the one set up at the first point for `n = 0`. -/
def state (c : Dev nD) : ℕ → Carried F
  | 0 => (k0_pay4 (wtOf m c) (btOf m c) (code0Of m c), k0_pay5 (code0Of m c))
  | n + 1 => leave (wtOf m c) (btOf m c)
      (tableRow (pt n) (tableOf m c) (codeOf (pt n) (tempOf m c) (unifOf m c) (headAt (headsOf m c) (pt n)) (state c n).1)) (state c n)

/-- The code that point `n` samples. -/
def codeAt (c : Dev nD) (n : ℕ) : BitVec 32 :=
  codeOf (pt n) (tempOf m c) (unifOf m c) (headAt (headsOf m c) (pt n)) (state m c n).1

theorem state_succ (c : Dev nD) (n : ℕ) :
    state m c (n + 1) = leave (wtOf m c) (btOf m c) (tableRow (pt n) (tableOf m c) (codeAt m c n)) (state m c n) := rfl

/-! ## The blocks -/

theorem coords_eq (t : Fin cfg0.N) : cfg0.grid.coords t = pt t.val := by
  rcases fin_N0 t with h | h | h | h | h | h | h | h | h | h | h | h | h | h | h <;> subst h <;> decide

/-- Two indices of a rank-two shape are equal if their coordinates are. -/
theorem pair_ext {d : Fin 2 → Nat} {x y : (⟨2, d⟩ : Shape).Idx} (h0 : (x 0).val = (y 0).val) (h1 : (x 1).val = (y 1).val) : x = y :=
  funext fun a => match a with | ⟨0, _⟩ => Fin.ext h0 | ⟨1, _⟩ => Fin.ext h1

/-- Every window but the heads' takes its array whole; the heads' takes one group's head. -/
theorem blk0 (c : Dev nD) (t : Fin cfg0.N) : (iblk m c 0 t : Vec F S1 .f32) = tempOf m c := by
  funext y; unfold iblk tempOf
  refine congrArg (V m c main_arg2) (Shape.idx1_ext ?_)
  show 0 * 1 + 1 * (y 0).val = (y 0).val; omega
@[inherit_doc blk0]
theorem blk1 (c : Dev nD) (t : Fin cfg0.N) : (iblk m c 1 t : Vec F S15 .f32) = unifOf m c := by
  funext y; unfold iblk unifOf
  refine congrArg (V m c main_arg3) (Shape.idx1_ext ?_)
  show 0 * 15 + 1 * (y 0).val = (y 0).val; omega
@[inherit_doc blk0]
theorem blk2 (c : Dev nD) (t : Fin cfg0.N) : (iblk m c 2 t : Vec F S1x1024 .f32) = code0Of m c := by
  funext y; unfold iblk code0Of
  refine congrArg (V m c main_v0) (pair_ext ?_ ?_)
  · show 0 * 1 + 1 * (y 0).val = (y 0).val; omega
  · show 0 * 1024 + 1 * (y 1).val = (y 1).val; omega
@[inherit_doc blk0]
theorem blk3 (c : Dev nD) (t : Fin cfg0.N) : (iblk m c 3 t : Vec F S1x2048x1024 .f32) = headAt (headsOf m c) (pt t.val) := by
  funext y; unfold iblk headAt headsOf
  have ht : t.val < 15 := t.isLt.trans_eq N_0
  refine congrArg (V m c main_arg4) (Shape.idx3_ext ?_ ?_ ?_)
  · have hy : (y 0).val < 1 := (y 0).isLt
    rw [← coords_eq]
    show (BitVec.ofNat 32 (cfg0.grid.coords t 0).val).toNat * 1 + 1 * (y 0).val = (cfg0.grid.coords t 0).val
    have h15 : (cfg0.grid.coords t 0).val < 15 := (cfg0.grid.coords t 0).isLt
    rw [BitVec.toNat_ofNat]; omega
  · show 0 * 2048 + 1 * (y 1).val = (y 1).val; omega
  · show 0 * 1024 + 1 * (y 2).val = (y 2).val; omega
@[inherit_doc blk0]
theorem blk4 (c : Dev nD) (t : Fin cfg0.N) : (iblk m c 4 t : Vec F S1024x1024 .f32) = wtOf m c := by
  funext y; unfold iblk wtOf
  refine congrArg (V m c main_arg6) (pair_ext ?_ ?_)
  · show 0 * 1024 + 1 * (y 0).val = (y 0).val; omega
  · show 0 * 1024 + 1 * (y 1).val = (y 1).val; omega
@[inherit_doc blk0]
theorem blk5 (c : Dev nD) (t : Fin cfg0.N) : (iblk m c 5 t : Vec F S1x1024 .f32) = btOf m c := by
  funext y; unfold iblk btOf
  refine congrArg (V m c main_v1) (pair_ext ?_ ?_)
  · show 0 * 1 + 1 * (y 0).val = (y 0).val; omega
  · show 0 * 1024 + 1 * (y 1).val = (y 1).val; omega

/-! ## What each point leaves -/

/-- What a point leaves in the codes' buffer: its slot at its code, the others as found. -/
def leavesCodes (c : Dev nD) (t : Fin cfg0.N) (Y X : Vec F S15 .i32) : Prop := X = putCode (pt t.val) (codeAt m c t.val) Y
/-- What a point leaves in the sum's buffer: the sum where the body writes it, else what it found. -/
def leavesSum (c : Dev nD) (t : Fin cfg0.N) (Y X : Vec F S1x1024 .f32) : Prop :=
  X = if k0_cond2 (pt t.val) = 1#1 then (state m c (t.val + 1)).2 else Y

/-- The scratch cell of the kernel's own copies. -/
abbrev osem0 : Fin 1 → SemLoc sig := fun j => (![SemLoc.dma 9] : Fin 1 → SemLoc sig) j
theorem ownSemFacts0 : Pipeline.OwnSemFacts spec0 osem0 := by decide
/-- The table left in HBM. -/
def H0 : Finset (Ref sig .tc) := {main_arg5}
theorem H0_sub : H0 ⊆ Pipeline.restRefs sig spec0 := by decide

/-- The invariant before point `n`: after the first point the two carried buffers hold `state m c n`; the row buffer holds
    anything, the copy's semaphore is at zero, the table is as launched. -/
def inv (c : Dev nD) (n : ℕ) : sProp 𝕄 :=
  iprop((∃ s : Carried F, ⌜n ≠ 0 → s = state m c n⌝ ∗ owns (c : Thread nD τ) hM fullShare s.1 ∗ owns (c : Thread nD τ) accM fullShare s.2)
    ∗ (∃ d, owns (c : Thread nD τ) rowM fullShare d) ∗ (∃ r, prngReg c r)
    ∗ semVal ((c : Thread nD τ), SemLoc.dma 9) 0 ∗ wholePt c tabM (tableOf m c))

/-- The proof data with the outputs unnamed. -/
def dat0 (c : Dev nD) : Dat τ (Elt F) Unit ℕ (Pipeline.UD sig nD τ) ℕ cfg0 c where
  A w := V m c (Pipeline.arrRef spec0 w)
  after w t := match w with
    | 0 => iblk m c 0 t | 1 => iblk m c 1 t | 2 => iblk m c 2 t | 3 => iblk m c 3 t | 4 => iblk m c 4 t | 5 => iblk m c 5 t
    | 6 => Dat.unnamed (cfg := cfg0) 6 t | 7 => Dat.unnamed (cfg := cfg0) 7 t
    | ⟨_ + 8, h⟩ => absurd h (Nat.not_lt.2 (Nat.le_add_left _ _))
  Φ t := inv m c t.val
  q _ := fullShare
  owed _ := 0

/-- The relations of the two outputs. -/
def outs (c : Dev nD) : (w : Fin cfg0.W) → Option (Fin cfg0.N → (Y X : (cfg0.win w).block.Idx → Elt F (cfg0.win w).elt) → Prop)
  | 0 => none | 1 => none | 2 => none | 3 => none | 4 => none | 5 => none
  | 6 => some (leavesCodes m c) | 7 => some (leavesSum m c)
  | ⟨_ + 8, h⟩ => absurd h (Nat.not_lt.2 (Nat.le_add_left _ _))

/-- The proof data of the run. -/
def rdat (c : Dev nD) : RDat τ (Elt F) Unit ℕ (Pipeline.UD sig nD τ) ℕ cfg0 c := (dat0 m c).toR.override (outs m c)

/-- The body table's row at a point is the body as spelt there. -/
theorem defs₀_row (t : Fin cfg0.N) : defs₀ (F := F) .tc cfg0.body (cfg0.bodyArgs t (cfg0.slots t)) = bodyAt0 t := by
  unfold defs₀; rw [Defs.onTc_tc]

/-- An input's relation is what the exact data say of it. -/
theorem after_in {c : Dev nD} {w : Fin cfg0.W} (h : outs m c w = none) (t : Fin cfg0.N) (Y X) :
    (rdat m c).after w t Y X = (dat0 m c).Leaves w t X :=
  congrFun (congrFun (congrFun ((dat0 m c).toR.override_after_of_eq_none h) t) Y) X

/-- What the body finds in an input's buffer is what the exact data say. -/
theorem finds_in {c : Dev nD} {w : Fin cfg0.W} (h : outs m c w = none) (t : Fin cfg0.N) {X} (hX : (rdat m c).Finds w t X) :
    ∃ d, X = (dat0 m c).before w t d := (dat0 m c).toR_finds w t X ((RDat.override_finds _ h t X).mp hX)

/-- An input's buffer holds its block before every point. -/
theorem before0 (c : Dev nD) (t : Fin cfg0.N) (d) : (dat0 m c).before 0 t d = iblk m c 0 t :=
  ((dat0 m c).before_in_eq_fetched 0 rfl (fun _ => rfl) (fun _ _ _ => rfl) (fun t => by rfl) t d).trans (by rfl)
@[inherit_doc before0] theorem before1 (c : Dev nD) (t : Fin cfg0.N) (d) : (dat0 m c).before 1 t d = iblk m c 1 t :=
  ((dat0 m c).before_in_eq_fetched 1 rfl (fun _ => rfl) (fun _ _ _ => rfl) (fun t => by rfl) t d).trans (by rfl)
@[inherit_doc before0] theorem before2 (c : Dev nD) (t : Fin cfg0.N) (d) : (dat0 m c).before 2 t d = iblk m c 2 t :=
  ((dat0 m c).before_in_eq_fetched 2 rfl (fun _ => rfl) (fun _ _ _ => rfl) (fun t => by rfl) t d).trans (by rfl)
@[inherit_doc before0] theorem before3 (c : Dev nD) (t : Fin cfg0.N) (d) : (dat0 m c).before 3 t d = iblk m c 3 t :=
  ((dat0 m c).before_in_eq_fetched 3 rfl (fun _ => rfl) (fun _ _ _ => rfl) (fun t => by rfl) t d).trans (by rfl)
@[inherit_doc before0] theorem before4 (c : Dev nD) (t : Fin cfg0.N) (d) : (dat0 m c).before 4 t d = iblk m c 4 t :=
  ((dat0 m c).before_in_eq_fetched 4 rfl (fun _ => rfl) (fun _ _ _ => rfl) (fun t => by rfl) t d).trans (by rfl)
@[inherit_doc before0] theorem before5 (c : Dev nD) (t : Fin cfg0.N) (d) : (dat0 m c).before 5 t d = iblk m c 5 t :=
  ((dat0 m c).before_in_eq_fetched 5 rfl (fun _ => rfl) (fun _ _ _ => rfl) (fun t => by rfl) t d).trans (by rfl)

/-- An input's buffer left at its block is as the exact data ask. -/
theorem leaves_in (c : Dev nD) (t : Fin cfg0.N) {w : Fin cfg0.W} (Y) (h : outs m c w = none)
    (hidle : cfg0.idle w (cfg0.grid.coords t) = false) (hl : cfg0.loose w = false) :
    (rdat m c).after w t Y ((dat0 m c).after w t) := by
  rw [after_in m h, Dat.Leaves.live_iff _ (.inl hidle), hl]

/-- Entering point `t`: from the invariant's pair, the state before the point. -/
theorem enter_state (c : Dev nD) (t : Fin cfg0.N) (s : Carried F) (h : t.val ≠ 0 → s = state m c t.val) :
    state m c t.val = enter (pt t.val) (wtOf m c) (btOf m c) (code0Of m c) s := by
  unfold enter
  by_cases h0 : t.val = 0
  · rw [if_pos (by rw [h0]; decide), h0]; rfl
  · have ht : t.val < 15 := t.isLt.trans_eq N_0
    rw [if_neg, h h0]
    obtain ⟨n, hn⟩ := t
    simp only at h0 ht ⊢
    clear h
    revert h0
    clear hn
    revert n; decide

/-- The body's obligation at every point. -/
theorem body_obligation (c : Dev nD) : (rdat m c).BodyObligation (defs₀ (F := F)) Variants.none () Set.univ := fun t Y hY => by
  obtain ⟨d0, e0⟩ := finds_in m (w := 0) rfl t (hY 0)
  obtain ⟨d1, e1⟩ := finds_in m (w := 1) rfl t (hY 1)
  obtain ⟨d2, e2⟩ := finds_in m (w := 2) rfl t (hY 2)
  obtain ⟨d3, e3⟩ := finds_in m (w := 3) rfl t (hY 3)
  obtain ⟨d4, e4⟩ := finds_in m (w := 4) rfl t (hY 4)
  obtain ⟨d5, e5⟩ := finds_in m (w := 5) rfl t (hY 5)
  rw [before0] at e0; rw [before1] at e1; rw [before2] at e2; rw [before3] at e3; rw [before4] at e4; rw [before5] at e5
  rw [bigSep_W0, bigSep_W0, defs₀_row, e0, e1, e2, e3, e4, e5]
  unfold bodyAt0
  rw [show (rdat m c).Φ t.succ = inv m c (t.val + 1) from rfl, show (rdat m c).Φ t.castSucc = inv m c t.val from rfl]
  unfold inv RDat.owesAt Pipeline.owesWithin
  rw [show (rdat m c).owed t.castSucc = 0 from rfl, show (rdat m c).owed t.succ = 0 from rfl]
  iintro ⟨⟨⟨%s, %hs, Hh, Ha⟩, Hr, Hg, Hq, Ht⟩, ⟨%W, %hW, HO⟩, H0, H1, H2, H3, H4, H5, H6, H7⟩
  iapply (kernelRun c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (win0_5.stage (cfg0.slots t 5)) (hstage0_5 ((cfg0.slots t 5).cast nbuf0_5)) (win0_6.stage (cfg0.slots t 6)) (hstage0_6 ((cfg0.slots t 6).cast nbuf0_6))
    (win0_7.stage (cfg0.slots t 7)) (hstage0_7 ((cfg0.slots t 7).cast nbuf0_7))
    (iblk m c 0 t) (iblk m c 1 t) (iblk m c 2 t) (iblk m c 3 t) (iblk m c 4 t) (iblk m c 5 t) (Y 6) (Y 7)
    s (state m c t.val) (state m c (t.val + 1)) (codeAt m c t.val) (tableOf m c)
    (by rw [blk2, blk4, blk5, show grid0.coords t = pt t.val from coords_eq t]; exact enter_state m c t s hs)
    (by rw [blk0, blk1, blk3, show grid0.coords t = pt t.val from coords_eq t]; rfl)
    (by rw [blk4, blk5, show grid0.coords t = pt t.val from coords_eq t]; rfl) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hh]; · iexact Hh
  isplitl [Ha]; · iexact Ha
  isplitl [Hr]; · iexact Hr
  isplitl [Hq]; · iexact Hq
  isplitl [Ht]; · iexact Ht
  isplitl [HO]; · iexact HO
  iintro ⟨H0, H1, H2, H3, H4, H5, H6, H7, Hh, Ha, Hr, Hq, Ht, ⟨%W', HO⟩⟩
  isplitl [Hh Ha Hr Hg Hq Ht]
  · isplitl [Hh Ha]
    · iexists (state m c (t.val + 1))
      isplitr; · ipureintro; exact fun _ => rfl
      isplitl [Hh]; · iexact Hh
      iexact Ha
    isplitl [Hr]; · iexact Hr
    isplitl [Hg]; · iexact Hg
    isplitl [Hq]; · iexact Hq
    iexact Ht
  isplitl [HO]
  · iexists W'; isplitr; · ipureintro; exact fun _ _ => Or.inl trivial
    iexact HO
  isplitl [H0]; · iexists _; isplitr; swap; · iexact H0
                  ipureintro; exact leaves_in m c t (w := 0) _ rfl rfl rfl
  isplitl [H1]; · iexists _; isplitr; swap; · iexact H1
                  ipureintro; exact leaves_in m c t (w := 1) _ rfl rfl rfl
  isplitl [H2]; · iexists _; isplitr; swap; · iexact H2
                  ipureintro; exact leaves_in m c t (w := 2) _ rfl rfl rfl
  isplitl [H3]; · iexists _; isplitr; swap; · iexact H3
                  ipureintro; exact leaves_in m c t (w := 3) _ rfl rfl rfl
  isplitl [H4]; · iexists _; isplitr; swap; · iexact H4
                  ipureintro; exact leaves_in m c t (w := 4) _ rfl rfl rfl
  isplitl [H5]; · iexists _; isplitr; swap; · iexact H5
                  ipureintro; exact leaves_in m c t (w := 5) _ rfl rfl rfl
  isplitl [H6]; · iexists _; isplitr; swap; · iexact H6
                  ipureintro
                  show leavesCodes m c t _ _
                  unfold leavesCodes; rw [show grid0.coords t = pt t.val from coords_eq t]
  iexists _; isplitr; swap; · iexact H7
  ipureintro
  show leavesSum m c t _ _
  unfold leavesSum; rw [show grid0.coords t = pt t.val from coords_eq t]

/-! ## The launch -/

/-- The copy's semaphore at zero. -/
theorem ownSems00_eq (c : Dev nD) : (Pipeline.ownSems0 (Ix := Unit) (Name := ℕ) (U := Pipeline.UD sig nD τ) (Lvl := ℕ) (Val := Elt F) (τ := τ) osem0 c : sProp 𝕄)
    = semVal ((c : Thread nD τ), SemLoc.dma 9) 0 := by
  rw [Pipeline.ownSems0_eq_of_list c osem0 [0] (by decide) (by decide)]; rfl

/-- The table in HBM as launched. -/
theorem hbmPts0_eq (c : Dev nD) :
    (bigSep H0 (fun b => ((c : Thread nD τ).loc b) ↦{fullShare} V m c b) : sProp 𝕄) = wholePt c tabM (tableOf m c) := by
  rw [BI.bigSep_eq_bigSepL_of_eq [main_arg5] (by decide) (by decide)]; rfl

/-- What the launch hands the kernel besides the windows, conjunct by conjunct. -/
theorem PhiD0_eq (c : Dev nD) :
    (Pipeline.ΦD osem0 spec0 H0 (V m) c : sProp 𝕄)
      = iprop(iprop((∃ d, owns (c : Thread nD τ) hM fullShare d) ∗ (∃ d, owns (c : Thread nD τ) accM fullShare d)
            ∗ (∃ d, owns (c : Thread nD τ) rowM fullShare d))
          ∗ (∃ r, prngReg c r) ∗ semVal ((c : Thread nD τ), SemLoc.dma 9) 0 ∗ wholePt c tabM (tableOf m c)) := by
  rw [Pipeline.ΦD_eq, scopedRest0_eq, ownSems00_eq, hbmPts0_eq]; simp only [hM, accM, rowM, owns_whole]; try rfl

set_option maxHeartbeats 800000 in
/-- The program up to the region: the host operations, then the region. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- What the launch hands the kernel gives the invariant before the first point. -/
theorem inv_start (c : Dev nD) : Pipeline.ΦD osem0 spec0 H0 (V m) c ⊢ (inv m c 0 : sProp 𝕄) := by
  rw [PhiD0_eq]; unfold inv
  iintro ⟨⟨⟨%h, Hh⟩, ⟨%a, Ha⟩, Hr⟩, Hg, Hq, Ht⟩
  isplitl [Hh Ha]
  · iexists ((h, a) : Carried F)
    isplitr; · ipureintro; exact fun hn => absurd rfl hn
    isplitl [Hh]; · iexact Hh
    iexact Ha
  isplitl [Hr]; · iexact Hr
  isplitl [Hg]; · iexact Hg
  isplitl [Hq]; · iexact Hq
  iexact Ht

/-- The invariant gives back what the launch handed over. -/
theorem inv_end (c : Dev nD) (n : ℕ) : (inv m c n : sProp 𝕄) ⊢ Pipeline.ΦD osem0 spec0 H0 (V m) c := by
  rw [PhiD0_eq]; unfold inv
  iintro ⟨⟨%s, %hs, Hh, Ha⟩, Hr, Hg, Hq, Ht⟩
  isplitl [Hh Ha Hr]
  · isplitl [Hh]; · iexists _; iexact Hh
    isplitl [Ha]; · iexists _; iexact Ha
    iexact Hr
  isplitl [Hg]; · iexact Hg
  isplitl [Hq]; · iexact Hq
  iexact Ht

-- the launch theorem's implicit arguments are found by unifying its conclusion with this statement, which unifies only when
-- unification may unfold plain definitions in a metavariable's type
set_option backward.isDefEq.respectTransparency.types false in
/-- From any memory with zero counters every run of the program ends; the windows' arrays hold what the relations allow,
    every other unscoped buffer is as launched and every counter is zero. -/
theorem run_main :
    θ_run defs (onTc (τ := τ) (main (F := F))) (s₀ m ρ)
      (fun r => Pipeline.RDat.FramePost (cfgs 0) (rdat m) (V m) r ∧ r.2.sem = fun _ => 0) :=
  Pipeline.RDat.θ_run_frame_dma (Q' := _) cfgs (0 : Fin 1) launch0 osem0 defs₀ Variants.none (rdat m) ownSemFacts0 H0 H0_sub m ρ main
    (hbody := body_obligation m) (hshare := fun c w => (dat0 m c).share_full (fun _ => rfl) w)
    (howed := fun _ _ => rfl) (V := V m) (hmain := hmainD m Variants.none) (hA := fun _ _ => rfl)
    (hin := inv_start m) (hout := fun c => inv_end m c 15)

/-! ## What the arrays hold at the end -/

/-- What may be left in the codes' buffer at point `n` holds the codes sampled so far. -/
theorem codes_left (c : Dev nD) (n : ℕ) : ∀ (hn : n < cfg0.N) (X : Vec F S15 .i32), (rdat m c).Leaves 6 ⟨n, hn⟩ X →
    ∀ x : S15.Idx, (x 0).val ≤ n → X x = codeAt m c (x 0).val := by
  induction n with
  | zero =>
    rintro hn X ⟨Y, -, hX⟩ x hx
    have hX : X = putCode (pt 0) (codeAt m c 0) Y := hX
    have h0 : (x 0).val = 0 := Nat.le_zero.mp hx
    rw [hX]; unfold putCode; rw [if_pos (by rw [h0]; rfl), h0]
  | succ n ih =>
    rintro hn X ⟨Y, hY, hX⟩ x hx
    have hX : X = putCode (pt (n + 1)) (codeAt m c (n + 1)) Y := hX
    have h15 : n + 1 < 15 := hn.trans_eq N_0
    have hp : ((pt (n + 1)) 0).val = n + 1 := Nat.mod_eq_of_lt h15
    rw [hX]; unfold putCode
    by_cases he : (x 0).val = n + 1
    · rw [if_pos (by rw [hp, he]), he]
    · rw [if_neg (by rw [hp]; exact he)]
      rcases ((rdat m c).finds_of_pos (w := 6) (t := ⟨n + 1, hn⟩) rfl (Nat.succ_ne_zero n) Y).mp hY with hf | hl
      · rw [flush0_6] at hf
        have : (n + 1 - 1) % 15 = 14 := hf
        omega
      · exact ih (Nat.lt_of_succ_lt hn) Y hl x (by omega)

/-- A run's codes: the array holds the fifteen codes. -/
theorem final_codes (c : Dev nD) (G : Vec F S15 .i32) (h : (rdat m c).ArrAt 6 cfg0.N G) (x : S15.Idx) : G x = codeAt m c (x 0).val := by
  have hN : cfg0.N = 14 + 1 := N_0
  rw [hN] at h
  unfold RDat.ArrAt at h
  simp only at h
  rw [dif_pos (by rw [hN]; decide), if_pos ((flush0_6 _).mpr rfl)] at h
  obtain ⟨G₀, X, -, hX, hG⟩ := h
  have hx : (x 0).val ≤ 14 := Nat.le_of_lt_succ (x 0).isLt
  rw [← codes_left m c 14 _ X hX x hx, hG]
  have r : View.read (Elt F) ((cfg0.win 6).blk (⟨14, hN ▸ by decide⟩ : Fin cfg0.N)).view G
      = (cfg0.win 6).cut (cfg0.grid.coords (⟨14, hN ▸ by decide⟩ : Fin cfg0.N)) X := by
    rw [hG]; exact View.read_write_univ _ _
  rw [← hG]
  refine (congrArg G (?_ : x = _)).trans (congrFun r x)
  funext a
  have ha : a = (0 : Fin 1) := Subsingleton.elim _ _
  subst ha
  refine Fin.ext ?_
  show (x 0).val = 0 * 15 + 1 * (x 0).val
  omega

/-- A run's sum: the array holds the sum after the last point. -/
theorem final_sum (c : Dev nD) (G : Vec F S1x1024 .f32) (h : (rdat m c).ArrAt 7 cfg0.N G) : G = (state m c 15).2 := by
  have hN : cfg0.N = 14 + 1 := N_0
  rw [hN] at h
  unfold RDat.ArrAt at h
  simp only at h
  rw [dif_pos (by rw [hN]; decide), if_pos ((flush0_7 _).mpr rfl)] at h
  obtain ⟨G₀, X, -, ⟨Y, -, hX⟩, hG⟩ := h
  have hX : X = if k0_cond2 (pt 14) = 1#1 then (state m c (14 + 1)).2 else Y := hX
  rw [if_pos (by decide)] at hX
  rw [hG, ← hX]
  funext x
  have r : View.read (Elt F) ((cfg0.win 7).blk (⟨14, hN ▸ by decide⟩ : Fin cfg0.N)).view G
      = (cfg0.win 7).cut (cfg0.grid.coords (⟨14, hN ▸ by decide⟩ : Fin cfg0.N)) X := by
    rw [hG]; exact View.read_write_univ _ _
  rw [← hG]
  refine (congrArg G (?_ : x = _)).trans (congrFun r x)
  exact pair_ext (by show (x 0).val = 0 * 1 + 1 * (x 0).val; omega) (by show (x 1).val = 0 * 1024 + 1 * (x 1).val; omega)

/-- The whole run: every run ends with the codes' result holding the fifteen codes, the sum's result the sum after the last
    point, every argument as launched and every counter at zero. -/
theorem run :
    θ_run defs (onTc (τ := τ) (main (F := F))) ⟨m, fun _ => 0, ρ⟩ (fun r => (∀ c : Dev nD,
      (r.2.mem ((c.tc : Thread nD τ).loc main_v2_0) = (fun x => codeAt m c (x 0).val : Vec F S15 .i32)
      ∧ r.2.mem ((c.tc : Thread nD τ).loc main_v2_1) = (state m c 15).2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c =>
    ⟨⟨funext fun x => final_codes m c _ ((h.1 c).1 6) x, final_sum m c _ ((h.1 c).1 7)⟩,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (RDat.FramePost.arr_in h.1 c 0 rfl).trans (V_main_arg2 m c),
      (RDat.FramePost.arr_in h.1 c 1 rfl).trans (V_main_arg3 m c),
      (RDat.FramePost.arr_in h.1 c 3 rfl).trans (V_main_arg4 m c),
      ((h.1 c).2 main_arg5 (Pipeline.mem_restRefs_of main_arg5 (by decide) (by decide))).trans (V_main_arg5 m c),
      (RDat.FramePost.arr_in h.1 c 4 rfl).trans (V_main_arg6 m c),
      ((h.1 c).2 main_arg7 (Pipeline.mem_restRefs_of main_arg7 (by decide) (by decide))).trans (V_main_arg7 m c)⟩, h.2⟩) (run_main m ρ)

end Cert.KernelIdeal.Run
end
-- ==== Proof.Ref.lean ====
/-
  The reference's run: @main is host operations and one loop of fifteen trips. What a buffer no operation writes holds at the
  end is what it held at the launch; the arguments are such buffers.
-/
module

public import proofs.«01_k».proof.Proof.Gen.ReferenceIdeal.Run

@[expose] public section

noncomputable section

namespace Cert.ReferenceIdeal.Value

open Cert.ReferenceIdeal.Gen
open Idealize.ShloMosaic Idealize.ShloMosaic.StableHlo Idealize.SL.Sem

variable {F : FTy → Type} [FloatOps F]
variable (m : (ℓ : Loc nD τ sig) → Buf (Elt F) ℓ) (ρ : Dev nD → PrngReg)

/-- A buffer that neither the loop's condition nor its body writes holds before every trip what it held at the loop's entry. -/
theorem atK_kept (b : Ref sig .tc) (hb : ∀ V : Valuation τ sig (Elt F), afterL bodyI V (Proc.devRef .tc b) = V (Proc.devRef .tc b))
    (hc : ∀ V : Valuation τ sig (Elt F), after condOps V (Proc.devRef .tc b) = V (Proc.devRef .tc b)) (c : Dev nD) :
    ∀ k, atK m k c (Proc.devRef .tc b) = entryContents preI m c (Proc.devRef .tc b)
  | 0 => rfl
  | k + 1 => by
    rw [show atK m (k + 1) c = afterL bodyI (after condOps (atK m k c)) from rfl, hb, hc, atK_kept b hb hc c k]

/-- Every buffer the loop writes. -/
abbrev loopW : List (Ref sig .tc) := condOps_W ++ (while0Ops0_W ++ (while0Ops0_1_W ++ (while0Ops0_2_W ++ (while0Ops0_3_W ++ (while0Ops0_4_W ++ (while0Ops0_5_W ++ (while0Ops0_6_W ++ (while0Ops0_7_W ++ (while0Ops0_8_W ++ (while0Ops0_9_W ++ (while0Ops0_10_W ++ (while0Ops0_11_W ++ (while0Ops0_12_W ++ (while0Ops0_13_W))))))))))))))

/-- The body leaves a buffer none of its stretches writes. -/
theorem body_kept (b : Ref sig .tc) (h : b ∉ loopW) (V : Valuation τ sig (Elt F)) :
    afterL bodyI V (Proc.devRef .tc b) = V (Proc.devRef .tc b) := by
  simp only [loopW, List.mem_append, not_or] at h
  obtain ⟨-, h0, h1, h2, h3, h4, h5, h6, h7, h8, h9, h10, h11, h12, h13⟩ := h
  simp only [afterL_cons, afterL_nil]
  rw [after_of_writes_sub while0Ops0_13 _ while0Ops0_13_writes h13,
    after_of_writes_sub while0Ops0_12 _ while0Ops0_12_writes h12,
    after_of_writes_sub while0Ops0_11 _ while0Ops0_11_writes h11,
    after_of_writes_sub while0Ops0_10 _ while0Ops0_10_writes h10,
    after_of_writes_sub while0Ops0_9 _ while0Ops0_9_writes h9,
    after_of_writes_sub while0Ops0_8 _ while0Ops0_8_writes h8,
    after_of_writes_sub while0Ops0_7 _ while0Ops0_7_writes h7,
    after_of_writes_sub while0Ops0_6 _ while0Ops0_6_writes h6,
    after_of_writes_sub while0Ops0_5 _ while0Ops0_5_writes h5,
    after_of_writes_sub while0Ops0_4 _ while0Ops0_4_writes h4,
    after_of_writes_sub while0Ops0_3 _ while0Ops0_3_writes h3,
    after_of_writes_sub while0Ops0_2 _ while0Ops0_2_writes h2,
    after_of_writes_sub while0Ops0_1 _ while0Ops0_1_writes h1,
    after_of_writes_sub while0Ops0 _ while0Ops0_writes h0]

/-- The condition leaves a buffer it does not write. -/
theorem cond_kept (b : Ref sig .tc) (h : b ∉ loopW) (V : Valuation τ sig (Elt F)) :
    after condOps V (Proc.devRef .tc b) = V (Proc.devRef .tc b) :=
  after_of_writes_sub condOps V condOps_writes fun hb => h (List.mem_append_left _ hb)

/-- A buffer no operation of the program writes holds at the end what it held at the launch. -/
theorem arg_kept (b : Ref sig .tc) (h : b ∉ loopW) (h0 : b ∉ hostOps0_W) (c : Dev nD) :
    finalContents condOps preI bodyI postI 15 m c (Proc.devRef .tc b) = m ((c.tc : Thread nD τ).loc b) := by
  show after condOps (atK m 15 c) (Proc.devRef .tc b) = _
  rw [cond_kept b h, atK_kept m b (body_kept b h) (cond_kept b h)]
  exact after_of_writes_sub hostOps0 _ hostOps0_writes h0

/-- A memory that holds the fold's final contents holds the arguments as launched. -/
theorem args_kept (c : Dev nD) (M : (ℓ : Loc nD τ sig) → Buf (Elt F) ℓ)
    (h : ∀ b : Ref sig .tc, (Proc.devRef (τ := τ) .tc b).isScoped = false →
      M ((c.tc : Thread nD τ).loc b) = finalContents condOps preI bodyI postI 15 m c (Proc.devRef .tc b)) :
      M ((c.tc : Thread nD τ).loc main_arg0) = m ((c.tc : Thread nD τ).loc main_arg0)
      ∧ M ((c.tc : Thread nD τ).loc main_arg1) = m ((c.tc : Thread nD τ).loc main_arg1)
      ∧ M ((c.tc : Thread nD τ).loc main_arg2) = m ((c.tc : Thread nD τ).loc main_arg2)
      ∧ M ((c.tc : Thread nD τ).loc main_arg3) = m ((c.tc : Thread nD τ).loc main_arg3)
      ∧ M ((c.tc : Thread nD τ).loc main_arg4) = m ((c.tc : Thread nD τ).loc main_arg4)
      ∧ M ((c.tc : Thread nD τ).loc main_arg5) = m ((c.tc : Thread nD τ).loc main_arg5)
      ∧ M ((c.tc : Thread nD τ).loc main_arg6) = m ((c.tc : Thread nD τ).loc main_arg6)
      ∧ M ((c.tc : Thread nD τ).loc main_arg7) = m ((c.tc : Thread nD τ).loc main_arg7) :=
  ⟨(h main_arg0 rfl).trans (arg_kept m main_arg0 (by decide +kernel) (by decide +kernel) c),
      (h main_arg1 rfl).trans (arg_kept m main_arg1 (by decide +kernel) (by decide +kernel) c),
      (h main_arg2 rfl).trans (arg_kept m main_arg2 (by decide +kernel) (by decide +kernel) c),
      (h main_arg3 rfl).trans (arg_kept m main_arg3 (by decide +kernel) (by decide +kernel) c),
      (h main_arg4 rfl).trans (arg_kept m main_arg4 (by decide +kernel) (by decide +kernel) c),
      (h main_arg5 rfl).trans (arg_kept m main_arg5 (by decide +kernel) (by decide +kernel) c),
      (h main_arg6 rfl).trans (arg_kept m main_arg6 (by decide +kernel) (by decide +kernel) c),
      (h main_arg7 rfl).trans (arg_kept m main_arg7 (by decide +kernel) (by decide +kernel) c)⟩

/-- The reference's frame: every run ends with the arguments as launched and every counter at zero. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run (defs (F := F)) _ _).mono (fun r h => ⟨fun c => args_kept m c r.2.mem (h c),
    sem_eq_zero_of_no_sems (by decide) r.2⟩) (run_fold m ρ)

end Cert.ReferenceIdeal.Value
end
-- ==== Proof.Frames.lean ====
/-
  The three frames. The kernel's program as written and its reading over the extended reals have one text, so the run proved
  for any float values serves both.
-/
module

public import proofs.«01_k».proof.Defs
public import proofs.«01_k».proof.Proof.Gen.Kernel
public import proofs.«01_k».proof.Proof.Launch
public import proofs.«01_k».proof.Proof.Ref

@[expose] public section

noncomputable section

namespace Cert.Proof

open Idealize.ShloMosaic Idealize.SL.Sem

attribute [local instance] Cert.Kernel.Gen.facts Cert.KernelIdeal.Gen.facts Cert.ReferenceIdeal.Gen.facts

/-- The kernel's frame at any float values: every run ends, the arguments as launched, every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Pipeline.defs (Cert.KernelIdeal.pcfgs (F := F)) (Cert.KernelIdeal.defs₀ (F := F)))
      (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
        ∧ r.2.sem = fun _ => 0) :=
  (θ_run Cert.KernelIdeal.defs _ _).mono (fun _ h => ⟨fun c => (h.1 c).2, h.2⟩) (Cert.KernelIdeal.Run.run (F := F) m ρ)

/-- The kernel's frame over the extended reals. -/
theorem frame_pi : Cert.quiescent_KernelIdeal := fun m ρ _ => frame_any (F := Ideal) m ρ

/-- The reference's frame over the extended reals. -/
theorem frame_ri : Cert.quiescent_ReferenceIdeal := fun m ρ _ => Cert.ReferenceIdeal.Value.frame (F := Ideal) m ρ

set_option maxHeartbeats 1000000 in
/-- The two texts' body tables are one table. -/
theorem tables_eq : Cert.Kernel.defs₀ (F := Bits) = Cert.KernelIdeal.defs₀ (F := Bits) := by
  funext p
  cases p with
  | tc =>
    funext l a
    match l, a with
    | ⟨0, _⟩, (t, s) => rfl
    | ⟨_ + 1, h⟩, _ => exact absurd h (Nat.not_lt.2 (Nat.le_add_left _ _))
  | scScalar _ => rfl
  | scVector _ _ => rfl

set_option maxHeartbeats 1000000 in
/-- The kernel's frame at bit patterns. -/
theorem frame_p : Cert.quiescent_Kernel := fun m ρ _ => by
  unfold Cert.Kernel.defs
  rw [tables_eq]
  exact frame_any (F := Bits) m ρ

end Cert.Proof
end
-- ==== Proof.Ranks.lean ====
/-
  The selection of the greatest entries of a row of extended reals, in two ways: by a stable sort, and by repeatedly taking
  the first greatest entry and overwriting it with minus infinity. They agree on every value, and on the position of every
  value that is not minus infinity.
-/
module

public import Idealize.ShloMosaic.Lib.SortPrefix
public import Idealize.ShloMosaic.PureOps.Ideal

@[expose] public section

noncomputable section

namespace Cert.Sampling

open Idealize.ShloMosaic

variable {n : ℕ}

/-- `π` lists the positions of `x` from the greatest entry down, equal entries from the lowest position up. -/
structure Ranked (x : Fin n → EReal) (π : Fin n → Fin n) : Prop where
  onto : Function.Surjective π
  inj : Function.Injective π
  ord : ∀ i j, i < j → x (π j) < x (π i) ∨ (x (π j) = x (π i) ∧ π i < π j)

/-- Greater first. -/
abbrev greater (x : Fin n → EReal) (k k' : Fin n) : Bool := decide (x k' < x k)
/-- Greater first, then the lower position. -/
abbrev greaterThenLower (x : Fin n → EReal) (k k' : Fin n) : Bool :=
  decide (x k' < x k) || (decide (x k = x k') && decide (k < k'))

theorem strictTotal (x : Fin n → EReal) : StrictTotalBefore (greaterThenLower x) :=
  StrictTotalBefore.of_key_then_position (fun a b : EReal => decide (b < a)) x (fun a => by simp)
    (fun a b c h1 h2 => by simp only [decide_eq_true_eq] at h1 h2 ⊢; exact h2.trans h1)
    (fun a b => by
      simp only [decide_eq_true_eq]
      rcases lt_trichotomy b a with h | h | h
      · exact .inl h
      · exact .inr (.inl h.symm)
      · exact .inr (.inr h))

/-- On positions in increasing order a stable sort by the entries is a sort by the entries and then the positions. -/
theorem stableSort_greater (x : Fin n → EReal) (l : List (Fin n)) (hl : l.Pairwise (· < ·)) :
    stableSort (greater x) l = stableSort (greaterThenLower x) l := by
  induction l with
  | nil => rfl
  | cons a l ih =>
    rw [List.pairwise_cons] at hl
    unfold stableSort
    rw [ih hl.2]
    refine insertBefore_congr _ _ a _ fun b hb => ?_
    have hab : a < b := hl.1 b ((perm_stableSort _ _).mem_iff.mp hb)
    simp [greater, greaterThenLower, hab.not_gt]

theorem sortedFrom_greater (x : Fin n → EReal) : sortedFrom (greater x) = sortedFrom (greaterThenLower x) := by
  funext k
  have h : sortPositions n (greater x) = sortPositions n (greaterThenLower x) :=
    stableSort_greater x _ (List.pairwise_lt_finRange n)
  unfold sortedFrom
  rw [List.get_of_eq h]
  rfl

/-- A stable sort, greater first, ranks the positions. -/
theorem ranked_sortedFrom (x : Fin n → EReal) : Ranked x (sortedFrom (greater x)) where
  onto := sortedFrom_surjective _
  inj := sortedFrom_injective _
  ord i j hij := by
    have hS := strictTotal x
    have h := sortedFrom_noInversion (greaterThenLower x) (greaterThenLower x) (fun a b h => hS.asymm a b h) (fun _ _ h => h)
      hS.negTrans i j hij
    rw [← sortedFrom_greater] at h
    have hne : sortedFrom (greater x) i ≠ sortedFrom (greater x) j := fun e => hij.ne (sortedFrom_injective _ e)
    rcases hS.total _ _ hne with h' | h'
    · simp only [greaterThenLower, Bool.or_eq_true, Bool.and_eq_true, decide_eq_true_eq] at h'
      rcases h' with h' | ⟨h', h''⟩
      · exact .inl h'
      · exact .inr ⟨h'.symm, h''⟩
    · rw [h] at h'; exact absurd h' (by decide)

/-- One step of the repeated selection: position `p` overwritten by minus infinity. -/
def struck (w : Fin n → EReal) (p : Fin n) : Fin n → EReal := fun k => if k = p then ⊥ else w k

/-- `p` is the first position of a greatest entry of `w`. -/
def FirstMax (w : Fin n → EReal) (p : Fin n) : Prop := (∀ k, w k ≤ w p) ∧ ∀ k, w k = w p → p ≤ k

theorem FirstMax.unique {w : Fin n → EReal} {p q : Fin n} (hp : FirstMax w p) (hq : FirstMax w q) : p = q :=
  le_antisymm (hp.2 q (le_antisymm (hp.1 q) (hq.1 p))) (hq.2 p (le_antisymm (hq.1 p) (hp.1 q)))

/-- The entries ranked `m` and later, the others minus infinity. -/
def rest (x : Fin n → EReal) (π : Fin n → Fin n) (m : ℕ) : Fin n → EReal :=
  fun p => if ∃ i : Fin n, i.val < m ∧ π i = p then ⊥ else x p

variable {x : Fin n → EReal} {π : Fin n → Fin n}

theorem Ranked.mono (h : Ranked x π) {i j : Fin n} (hij : i ≤ j) : x (π j) ≤ x (π i) := by
  rcases hij.eq_or_lt with rfl | hlt
  · exact le_rfl
  · rcases h.ord i j hlt with h | ⟨h, -⟩
    · exact h.le
    · exact h.le

theorem Ranked.rest_at (h : Ranked x π) (m j : Fin n) : rest x π m (π j) = if j < m then ⊥ else x (π j) := by
  unfold rest
  refine if_congr ⟨fun ⟨i, hi, e⟩ => ?_, fun hj => ⟨j, hj, rfl⟩⟩ rfl rfl
  rw [← h.inj e]; exact hi

theorem Ranked.rest_self (h : Ranked x π) (m : Fin n) : rest x π m (π m) = x (π m) := by
  rw [h.rest_at, if_neg (lt_irrefl m)]

/-- The greatest entry left is the one ranked next. -/
theorem Ranked.rest_le (h : Ranked x π) (m p : Fin n) : rest x π m p ≤ x (π m) := by
  obtain ⟨j, rfl⟩ := h.onto p
  rw [h.rest_at]
  split
  · exact bot_le
  · exact h.mono (not_lt.mp ‹_›)

/-- Its first position is the one ranked next, unless only minus infinities are left after some were overwritten. -/
theorem Ranked.firstMax (h : Ranked x π) (m : Fin n) (hm : x (π m) ≠ ⊥ ∨ m.val = 0) : FirstMax (rest x π m) (π m) := by
  refine ⟨fun k => (h.rest_le m k).trans (h.rest_self m).ge, fun k hk => ?_⟩
  obtain ⟨j, rfl⟩ := h.onto k
  rw [h.rest_self, h.rest_at] at hk
  split at hk
  · next hj =>
    rcases hm with hm | hm
    · exact absurd hk.symm hm
    · exact absurd hj (by simp [Fin.lt_def, hm])
  · next hj =>
    rcases (not_lt.mp hj).eq_or_lt with rfl | hlt
    · exact le_rfl
    · rcases h.ord m j hlt with h' | ⟨-, h'⟩
      · exact absurd hk h'.ne
      · exact h'.le

/-- Overwriting a first greatest entry leaves the entries ranked later. -/
theorem Ranked.struck_rest (h : Ranked x π) (m : Fin n) {p : Fin n} (hp : FirstMax (rest x π m) p) :
    struck (rest x π m) p = rest x π (m.val + 1) := by
  by_cases hm : x (π m) = ⊥
  · have hall : ∀ k, rest x π m k = ⊥ := fun k => le_bot_iff.mp (hm ▸ h.rest_le m k)
    funext k
    unfold struck
    rw [hall k, ite_self]
    have hk := hall k
    unfold rest at hk ⊢
    split
    · rfl
    · next hne =>
      rw [if_neg fun ⟨i, hi, e⟩ => hne ⟨i, by omega, e⟩] at hk
      exact hk.symm
  · rw [hp.unique (h.firstMax m (.inl hm))]
    funext k
    obtain ⟨j, rfl⟩ := h.onto k
    unfold struck
    rw [h.rest_at]
    unfold rest
    by_cases hj : j = m
    · rw [if_pos (by rw [hj]), if_pos ⟨j, by rw [hj]; omega, rfl⟩]
    · rw [if_neg fun e => hj (h.inj e)]
      refine if_congr ⟨fun hlt => ⟨j, by rw [Fin.lt_def] at hlt; omega, rfl⟩, fun ⟨i, hi, e⟩ => ?_⟩ rfl rfl
      rw [← h.inj e] at hj ⊢
      exact lt_of_le_of_ne (Fin.le_def.mpr (by omega)) hj

end Cert.Sampling
end
-- ==== Proof.Draw.lean ====
/-
  The draw of a slot from a row of values: the values over a temperature, their softmax, its running sums, and the first
  slot whose running sum reaches a given number. Slots filled with minus infinity at the end of the row change nothing, and
  a slot of minus infinity is drawn only if it is the first.
-/
module

public import Idealize.ShloMosaic.PureOps.Ideal
public import Mathlib.Algebra.Order.BigOperators.Group.Finset

@[expose] public section

noncomputable section

namespace Cert.Sampling

open Idealize.ShloMosaic

variable {n N : ℕ}

/-- Each value over the temperature. -/
def scaled (v : Fin n → EReal) (t : EReal) : Fin n → EReal := fun k => Ideal.div (v k) t
/-- The greatest entry. -/
def peak (y : Fin n → EReal) : EReal := Finset.univ.fold max ⊥ y
/-- The exponential of each entry less the greatest. -/
def weight (y : Fin n → EReal) : Fin n → EReal := fun k => Ideal.exp (y k - peak y)
/-- Each weight over the sum of all. -/
def share (y : Fin n → EReal) : Fin n → EReal := fun k => Ideal.div (weight y k) (∑ j, weight y j)
/-- The running sums. -/
def cumul (p : Fin n → EReal) : Fin n → EReal := fun k => ∑ j, if j ≤ k then p j else 0
/-- The running sums of the softmax of the values over the temperature. -/
def distribution (v : Fin n → EReal) (t : EReal) : Fin n → EReal := cumul (share (scaled v t))

/-- Slot `d` is the first whose entry reaches `s`, or slot 0 if none does. -/
def Draws (c : Fin n → EReal) (s : EReal) (d : Fin n) : Prop :=
  (s ≤ c d ∧ ∀ j < d, ¬ s ≤ c j) ∨ ((∀ j, ¬ s ≤ c j) ∧ d.val = 0)

theorem Draws.unique {c : Fin n → EReal} {s : EReal} {d e : Fin n} (hd : Draws c s d) (he : Draws c s e) : d = e := by
  rcases hd with ⟨hd, hd'⟩ | ⟨hd, hd0⟩ <;> rcases he with ⟨he, he'⟩ | ⟨he, he0⟩
  · exact le_antisymm (not_lt.mp fun h => hd' e h he) (not_lt.mp fun h => he' d h hd)
  · exact absurd hd (he d)
  · exact absurd he (hd e)
  · exact Fin.ext (hd0.trans he0.symm)

/-- A sum whose last terms are 0. -/
theorem sum_pad (hn : n ≤ N) (f : Fin N → EReal) (h : ∀ k, n ≤ k.val → f k = 0) : ∑ k, f k = ∑ k : Fin n, f (k.castLE hn) := by
  refine (Finset.sum_of_injOn (Fin.castLE hn) (fun a _ b _ e => Fin.castLE_injective hn e) (fun _ _ => Finset.mem_coe.mpr (Finset.mem_univ _))
    (fun k _ hk => h k ?_) fun _ _ => rfl).symm
  by_contra hlt
  exact hk ⟨⟨k.val, by omega⟩, Finset.mem_coe.mpr (Finset.mem_univ _), rfl⟩

/-- A row and the same row followed by minus infinities. -/
def Padded (hn : n ≤ N) (v : Fin n → EReal) (w : Fin N → EReal) : Prop :=
  (∀ k, w (k.castLE hn) = v k) ∧ ∀ k, n ≤ k.val → w k = ⊥

variable {t : EReal}

/-- Minus infinity over a positive temperature that is not infinite is minus infinity. -/
theorem bot_div (ht : 0 < t) (ht' : t ≠ ⊤) : Ideal.div ⊥ t = ⊥ := by
  rw [Ideal.div, if_neg ht.ne', EReal.bot_mul_of_pos (EReal.inv_pos_of_pos_ne_top ht ht')]

theorem Padded.scaled {hn : n ≤ N} {v : Fin n → EReal} {w : Fin N → EReal} (h : Padded hn v w) (ht : 0 < t) (ht' : t ≠ ⊤) :
    Padded hn (scaled v t) (Sampling.scaled w t) :=
  ⟨fun k => by simp only [Sampling.scaled, h.1], fun k hk => by simp only [Sampling.scaled, h.2 k hk, bot_div ht ht']⟩

theorem Padded.peak_eq {hn : n ≤ N} {v : Fin n → EReal} {w : Fin N → EReal} (h : Padded hn v w) : peak w = peak v := by
  apply le_antisymm
  · refine (Finset.fold_max_le _).mpr ⟨bot_le, fun k _ => ?_⟩
    by_cases hk : n ≤ k.val
    · rw [h.2 k hk]; exact bot_le
    · have : w k = v ⟨k.val, by omega⟩ := h.1 ⟨k.val, by omega⟩
      rw [this]
      exact (Finset.le_fold_max _).mpr (.inr ⟨_, Finset.mem_univ _, le_rfl⟩)
  · refine (Finset.fold_max_le _).mpr ⟨bot_le, fun k _ => ?_⟩
    rw [← h.1 k]
    exact (Finset.le_fold_max _).mpr (.inr ⟨_, Finset.mem_univ _, le_rfl⟩)

/-- An entry of minus infinity weighs nothing. -/
theorem weight_bot (y : Fin n → EReal) (k : Fin n) (h : y k = ⊥) : weight y k = 0 := by
  rw [weight, h, sub_eq_add_neg, EReal.bot_add, Ideal.exp_bot]

theorem Padded.weight_eq {hn : n ≤ N} {v : Fin n → EReal} {w : Fin N → EReal} (h : Padded hn v w) (k : Fin n) :
    weight w (k.castLE hn) = weight v k := by
  simp only [weight, h.1, h.peak_eq]

theorem Padded.total_eq {hn : n ≤ N} {v : Fin n → EReal} {w : Fin N → EReal} (h : Padded hn v w) :
    ∑ k, weight w k = ∑ k, weight v k := by
  rw [sum_pad hn _ fun k hk => weight_bot w k (h.2 k hk)]
  exact Finset.sum_congr rfl fun k _ => h.weight_eq k

theorem Padded.share_eq {hn : n ≤ N} {v : Fin n → EReal} {w : Fin N → EReal} (h : Padded hn v w) (k : Fin n) :
    share w (k.castLE hn) = share v k := by
  simp only [share, h.weight_eq, h.total_eq]

/-- The share of an entry of minus infinity is not positive. -/
theorem share_bot (y : Fin n → EReal) (k : Fin n) (h : y k = ⊥) : share y k ≤ 0 := by
  rw [share, weight_bot y k h, Ideal.div]
  split
  · rw [if_neg (lt_irrefl _)]; exact bot_le
  · rw [zero_mul]

/-- The running sums do not grow where the terms are not positive. -/
theorem cumul_le (p : Fin n → EReal) {k k' : Fin n} (hk : k' ≤ k) (h : ∀ j, k' < j → p j ≤ 0) : cumul p k ≤ cumul p k' := by
  refine Finset.sum_le_sum fun j _ => ?_
  by_cases h1 : j ≤ k'
  · rw [if_pos h1, if_pos (h1.trans hk)]
  · rw [if_neg h1]
    split
    · exact h j (not_le.mp h1)
    · exact le_rfl

theorem cumul_pad (hn : n ≤ N) (p : Fin n → EReal) (q : Fin N → EReal) (h : ∀ k, q (k.castLE hn) = p k) (k : Fin n) :
    cumul q (k.castLE hn) = cumul p k := by
  unfold cumul
  rw [sum_pad hn _ fun j hj => if_neg fun hle => by
    have hlt := k.isLt
    have hle' : j.val ≤ k.val := hle
    omega]
  exact Finset.sum_congr rfl fun j _ => if_congr Iff.rfl (h j) rfl

/-- A step of the running sums, at an entry that is not positive. -/
theorem cumul_pred (p : Fin n → EReal) (k : Fin n) (hk : 0 < k.val) (h : p k ≤ 0) : cumul p k ≤ cumul p ⟨k.val - 1, by omega⟩ := by
  refine Finset.sum_le_sum fun j _ => ?_
  by_cases h1 : j ≤ ⟨k.val - 1, by omega⟩
  · rw [if_pos h1, if_pos (h1.trans (Fin.le_def.mpr (by simp)))]
  · rw [if_neg h1]
    split
    · next hle =>
      have : j = k := Fin.ext (by rw [Fin.le_def] at hle h1; simp only at h1; omega)
      rw [this]; exact h
    · exact le_rfl

/-- THE DRAW: from a row followed by minus infinities the slot drawn is the one drawn from the row alone; and it is slot 0
    or holds a value that is not minus infinity. -/
theorem Padded.draw {hn : n ≤ N} {v : Fin n → EReal} {w : Fin N → EReal} (h : Padded hn v w) (ht : 0 < t) (ht' : t ≠ ⊤)
    {s : EReal} {d : Fin n} {e : Fin N} (hd : Draws (distribution v t) s d) (he : Draws (distribution w t) s e) :
    e.val = d.val ∧ (d.val = 0 ∨ v d ≠ ⊥) := by
  have hs := h.scaled ht ht'
  have hc : ∀ k : Fin n, distribution w t (k.castLE hn) = distribution v t k := fun k => cumul_pad hn _ _ hs.share_eq k
  have hdn := d.isLt
  have hed : e = d.castLE hn := by
    refine he.unique ?_
    rcases hd with ⟨h1, h2⟩ | ⟨h1, h2⟩
    · exact .inl ⟨(hc d).symm ▸ h1, fun j hj hsj => h2 ⟨j.val, lt_trans hj d.isLt⟩ hj (by
        rw [← hc]; exact hsj)⟩
    · refine .inr ⟨fun j hj => ?_, h2⟩
      by_cases hjn : n ≤ j.val
      · refine h1 ⟨n - 1, by omega⟩ (hj.trans ?_)
        rw [← hc]
        refine cumul_le _ (Fin.le_def.mpr (show n - 1 ≤ j.val by omega)) fun i hi => share_bot _ _ (hs.2 i ?_)
        have hi' : n - 1 < i.val := hi
        omega
      · exact h1 ⟨j.val, by omega⟩ (by rw [← hc]; exact hj)
  refine ⟨by rw [hed]; rfl, ?_⟩
  by_contra hcon
  rw [not_or, not_not] at hcon
  obtain ⟨h0, hbot⟩ := hcon
  rcases hd with ⟨h1, h2⟩ | ⟨h1, h2⟩
  · refine h2 ⟨d.val - 1, by omega⟩ (Fin.lt_def.mpr (show d.val - 1 < d.val by omega)) (h1.trans ?_)
    refine cumul_pred _ d (by omega) (share_bot _ _ ?_)
    rw [Sampling.scaled, hbot, bot_div ht ht']
  · exact h0 h2

end Cert.Sampling
end
-- ==== Proof.Sample.lean ====
/-
  The kernel's code at the extended reals: the fifty selection steps yield the fifty greatest logits, and the code sampled is
  the position of the value that the draw from those fifty picks.
-/
module

public import proofs.«01_k».proof.Proof.Reads
public import proofs.«01_k».proof.Proof.Ranks
public import proofs.«01_k».proof.Proof.Draw

@[expose] public section

noncomputable section

namespace Cert.KernelIdeal.Model

open Cert.KernelIdeal Cert.KernelIdeal.Gen Cert.Sampling
open Idealize.ShloMosaic Idealize.ShloMosaic.TcCoe

/-- The entries of an array of one row. -/
abbrev row {α : Type} {n : ℕ} (w : (⟨2, ![1, n]⟩ : Shape).Idx → α) : Fin n → α := fun k => w (ix2 0 k)

/-- The float with every exponent bit and the sign set is minus infinity. -/
theorem negInf_eq : Ideal.ofBits .f32 0xFF800000#32 = ⊥ := rfl

theorem rowMax_eq (w : FVec Ideal S1x2048 .f32) : rowMax w = peak (row w) := by
  unfold rowMax
  simp only [pointwise]
  exact fold_unit_pair _ _ fun k : Fin 2048 => w (ix2 0 k)

theorem max64_eq (w : FVec Ideal S1x64 .f32) : max64 w = peak (row w) := by
  unfold max64
  simp only [pointwise]
  exact fold_unit_pair _ _ fun k : Fin 64 => w (ix2 0 k)

theorem sum64_eq (w : FVec Ideal S1x64 .f32) : sum64 w = ∑ k, row w k := by
  unfold sum64
  simp only [pointwise]
  simp

/-- No entry exceeds the greatest, which is one of them. -/
theorem le_peak {n : ℕ} (y : Fin n → EReal) (k : Fin n) : y k ≤ peak y :=
  (Finset.le_fold_max _).mpr (.inr ⟨k, Finset.mem_univ _, le_rfl⟩)

theorem peak_mem {n : ℕ} (hn : 0 < n) (y : Fin n → EReal) : ∃ k, y k = peak y := by
  by_contra hcon
  rw [not_exists] at hcon
  have hlt : peak y < peak y := by
    have hpos : ⊥ < peak y := lt_of_le_of_ne bot_le fun e => hcon ⟨0, hn⟩ (le_antisymm (le_peak y _) (e ▸ bot_le))
    exact (Finset.fold_max_lt _).mpr ⟨hpos, fun k _ => lt_of_le_of_ne (le_peak y k) (hcon k)⟩
  exact absurd hlt (lt_irrefl _)

/-- The bit of a condition is set exactly when the condition holds. -/
theorem ofBool_iff (b : Bool) : BitVec.ofBool b = 1#1 ↔ b = true := by cases b <;> decide

theorem isMax_iff (w : FVec Ideal S1x2048 .f32) (k : Fin 2048) : isMax w k = true ↔ row w k = peak (row w) := by
  rw [isMax, rowMax_eq, decide_eq_true_eq]
  show BitVec.ofBool (decide (row w k = peak (row w))) = 1#1 ↔ _
  rw [ofBool_iff, decide_eq_true_eq]

/-- The lane a selection step takes is the first of a greatest entry, and the value it takes is that entry. -/
theorem step_takes (w : FVec Ideal S1x2048 .f32) :
    ∃ p : Fin 2048, FirstMax (row w) p ∧ rowArg w = BitVec.ofNat 32 p.val ∧ rowMax w = row w p := by
  rcases first_or_none (isMax w) with ⟨p, hp, hlt⟩ | h
  · have e := (isMax_iff w p).mp hp
    refine ⟨p, ⟨fun k => e ▸ le_peak (row w) k, fun k hk => ?_⟩, ?_, by rw [rowMax_eq, e]⟩
    · by_contra hkp
      have := hlt k (not_le.mp hkp)
      rw [(isMax_iff w k).mpr (hk.trans e)] at this
      exact absurd this (by decide)
    · rw [rowArg_eq]
      exact fold_first (by decide) _ _ (by decide) (by decide) p hp hlt
  · obtain ⟨k, hk⟩ := peak_mem (by decide) (row w)
    rw [← isMax_iff, h k] at hk
    exact absurd hk (by decide)

theorem row_strike (w : FVec Ideal S1x2048 .f32) (p : Fin 2048) (hp : rowArg w = BitVec.ofNat 32 p.val) :
    row (strike w) = struck (row w) p := by
  funext k
  unfold strike
  simp only [pointwise, lanes_at, hp, select_eq, ofNat_inj (a := k.val) (b := p.val) (by omega) (by omega), struck, Fin.ext_iff, row]
  rfl

variable {l : FVec Ideal S1x2048 .f32} {π : Fin 2048 → Fin 2048}

/-- After `m` steps the entries ranked `m` and later are left. -/
theorem row_work (h : Ranked (row l) π) (m : ℕ) (hm : m ≤ 2048) : row (work l m) = rest (row l) π m := by
  induction m with
  | zero =>
    funext k
    show row l k = _
    simp [rest]
  | succ m ih =>
    obtain ⟨p, hp, hpa, -⟩ := step_takes (work l m)
    rw [work, row_strike _ p hpa]
    rw [ih (by omega)] at hp ⊢
    have hm' : m < 2048 := hm
    exact h.struck_rest (⟨m, hm'⟩ : Fin 2048) hp

/-- Step `m` takes the value ranked `m`. -/
theorem rowMax_work (h : Ranked (row l) π) (m : Fin 2048) : rowMax (work l m.val) = row l (π m) := by
  obtain ⟨p, hp, -, hm⟩ := step_takes (work l m.val)
  rw [hm]
  rw [row_work h m.val m.isLt.le] at hp ⊢
  exact le_antisymm (h.rest_le m p) ((h.rest_self m).symm.le.trans (hp.1 (π m)))

/-- Step `m` takes the lane ranked `m`, if it is the first step or the value is not minus infinity. -/
theorem rowArg_work (h : Ranked (row l) π) (m : Fin 2048) (hm : row l (π m) ≠ ⊥ ∨ m.val = 0) :
    rowArg (work l m.val) = BitVec.ofNat 32 (π m).val := by
  obtain ⟨p, hp, hpa, -⟩ := step_takes (work l m.val)
  rw [row_work h m.val m.isLt.le] at hp
  rw [hpa, hp.unique (h.firstMax m hm)]

/-- The entry of 1s on and above the diagonal. -/
theorem tri_at (j k : Fin 64) : (tri (F := Ideal)) (ix2 j k) = if j ≤ k then 1 else 0 := by
  unfold tri
  simp only [pointwise]
  have e0 : List.foldl (fun n a => n * ![64, 64] a + (ix2 j k a).val) 0 [(0 : Fin 2)] = j.val := by simp [ix2]
  have e1 : List.foldl (fun n a => n * ![64, 64] a + (ix2 j k a).val) 0 [(1 : Fin 2)] = k.val := by simp [ix2]
  simp only [e0, e1]
  have hsle : BitVec.sle (BitVec.ofNat 32 j.val) (BitVec.ofNat 32 k.val) = decide (j ≤ k) := by
    rw [BitVec.sle, toInt_ofNat (by omega), toInt_ofNat (by omega)]
    simp
  show ((((IntOp.cmpi .sle (BitVec.ofNat 32 j.val) (BitVec.ofNat 32 k.val)).setWidth 32).toInt : ℝ) : EReal) = _
  by_cases hjk : j ≤ k
  · simp [IntOp.cmpi, hsle, hjk]
  · simp [IntOp.cmpi, hsle, hjk]

/-- The temperature the kernel divides by. -/
def floored (temp : EReal) : EReal := max temp (Ideal.ofBits .f32 0x3727C5AC#32)

theorem row_scaled (v : FVec Ideal S1x64 .f32) (temp : EReal) : row (Model.scaled v temp) = Sampling.scaled (row v) (floored temp) := by
  funext k
  unfold Model.scaled
  simp only [pointwise]
  rfl

theorem row_expo (y : FVec Ideal S1x64 .f32) : row (expo y) = weight (row y) := by
  funext k
  unfold expo
  simp only [pointwise, row, max64_eq, weight]

theorem row_norm (y : FVec Ideal S1x64 .f32) : row (norm (expo y)) = share (row y) := by
  funext k
  have e := congrFun (row_expo y)
  unfold norm
  simp only [row] at e
  simp only [pointwise, row, sum64_eq, e, share]

theorem row_prefixes (p : FVec Ideal S1x64 .f32) : row (prefixes p) = cumul (row p) := by
  funext k
  unfold prefixes
  simp only [pointwise, row]
  simp only [tri_at, mul_ite, mul_one, mul_zero, cumul, zero_add]

/-- The kernel's running sums are those of the softmax of the values over the temperature. -/
theorem row_cdf (v : FVec Ideal S1x64 .f32) (temp : EReal) : row (cdf v temp) = distribution (row v) (floored temp) := by
  rw [cdf, row_prefixes, row_norm, row_scaled, distribution]

theorem reaches_iff (cd : FVec Ideal S1x64 .f32) (s : EReal) (k : Fin 64) : reaches (F := Ideal) cd s k = true ↔ s ≤ row cd k := by
  rw [reaches, decide_eq_true_eq]
  show BitVec.ofBool (decide (s ≤ row cd k)) = 1#1 ↔ _
  rw [ofBool_iff, decide_eq_true_eq]

/-- The slot the kernel chooses is the one drawn. -/
theorem choice_draws (cd : FVec Ideal S1x64 .f32) (s : EReal) :
    ∃ e : Fin 64, Draws (row cd) s e ∧ choice (F := Ideal) cd s = BitVec.ofNat 32 e.val := by
  have hf : ∀ k, reaches (F := Ideal) cd s k = false ↔ ¬ s ≤ row cd k := fun k => by
    rw [← reaches_iff, Bool.not_eq_true]
  rcases first_or_none (reaches (F := Ideal) cd s) with ⟨e, he, hlt⟩ | h
  · exact ⟨e, .inl ⟨(reaches_iff cd s e).mp he, fun j hj => (hf j).mp (hlt j hj)⟩, choice_first cd s e he hlt⟩
  · exact ⟨0, .inr ⟨fun j => (hf j).mp (h j), rfl⟩, choice_none cd s h⟩

/-- The fifty greatest logits in order. -/
def fifty (x : Fin 2048 → EReal) (π : Fin 2048 → Fin 2048) : Fin 50 → EReal := fun k => x (π (k.castLE (by decide)))

/-- The kernel's selected values are the fifty greatest and then minus infinities. -/
theorem vals_padded (h : Ranked (row l) π) : Padded (by decide) (fifty (row l) π) (row (vals l 50)) := by
  refine ⟨fun k => ?_, fun k hk => ?_⟩
  · show vals l 50 (ix2 0 _) = _
    have hk : (k.castLE (show 50 ≤ 64 by decide)).val < 50 := k.isLt
    rw [vals_at l 50 (by decide)]
    refine (if_pos hk).trans ?_
    exact rowMax_work h (k.castLE (by decide))
  · show vals l 50 (ix2 0 _) = _
    rw [vals_at l 50 (by decide), if_neg (not_lt.mpr hk)]
    exact negInf_eq

/-- The least temperature divided by is a positive real. -/
theorem floor_real : ∃ r : ℝ, 0 < r ∧ Ideal.ofBits .f32 0x3727C5AC#32 = (r : EReal) := by
  refine ⟨10995116 * (2 ^ 40)⁻¹, by positivity, ?_⟩
  simp [Ideal.ofBits, Ideal.ieee, -EReal.coe_mul]

theorem floored_pos (temp : EReal) : 0 < floored temp := by
  obtain ⟨r, hr, e⟩ := floor_real
  exact lt_max_of_lt_right (e ▸ EReal.coe_pos.mpr hr)

theorem floored_ne_top (temp : EReal) (h : temp ≠ ⊤) : floored temp ≠ ⊤ := by
  obtain ⟨r, -, e⟩ := floor_real
  rw [floored, e]
  rcases max_choice temp (r : EReal) with hm | hm <;> rw [hm]
  · exact h
  · exact EReal.coe_ne_top r

/-- THE CODE: at a temperature that is not plus infinity the code sampled is the position of the value drawn from the fifty
    greatest logits. -/
theorem sample_eq (hd : Vec Ideal S1x1024 .f32) (head : Vec Ideal S1x2048x1024 .f32) (temp u : EReal) (ht : temp ≠ ⊤)
    (h : Ranked (row (logits hd head)) π) {d : Fin 50}
    (hdraw : Draws (distribution (fifty (row (logits hd head)) π) (floored temp)) (clipped (F := Ideal) u) d) :
    sample (F := Ideal) hd head temp u = BitVec.ofNat 32 (π (d.castLE (by decide))).val := by
  unfold sample
  obtain ⟨e, he, hc⟩ := choice_draws (cdf (vals (logits hd head) 50) temp) (clipped (F := Ideal) u)
  rw [row_cdf] at he
  obtain ⟨hed, h0⟩ := (vals_padded h).draw (floored_pos temp) (floored_ne_top temp ht) hdraw he
  rw [hc, pick_at, idxs_at _ _ (by decide), if_pos (by have := d.isLt; omega), hed]
  exact rowArg_work h (d.castLE (by decide)) h0.symm

end Cert.KernelIdeal.Model
end
-- ==== Proof.Trip.lean ====
/-
  One trip of the reference's loop as a function of what the carried buffers hold: the body's fourteen stretches read one by
  one, then put together.
-/
module

public import proofs.«01_k».proof.Proof.Ref
public import Idealize.ShloMosaic.Lib.StableHlo.RunClose

@[expose] public section

noncomputable section

namespace Cert.ReferenceIdeal.Value

open Cert.ReferenceIdeal.Gen
open Idealize.ShloMosaic Idealize.ShloMosaic.StableHlo Idealize.SL.Sem

variable {F : FTy → Type} [FloatOps F]

/-! ## The operations of a trip -/

/-- The trip's uniform number. -/
def unifAt (x : FVec F S15 .f32) (i : IVec S_ 32) : FVec F S_ .f32 :=
  shapeCast S_ (Host.dynamicSlice S1 x (fun k => ((![i] : Fin 1 → IVec S_ 32) k (Shape.Idx.first h_S_)).toInt) sliceFits_S15_S1) shapeCasts_S1_S_

/-- The trip's plane of a stack of matrices. -/
def planeAt (x : FVec F S15x2048x1024 .f32) (i : IVec S_ 32) : FVec F S2048x1024 .f32 :=
  shapeCast S2048x1024 (Host.dynamicSlice S1x2048x1024 x
    (fun k => ((![i, constantI S_ 32 0#32, constantI S_ 32 0#32] : Fin 3 → IVec S_ 32) k (Shape.Idx.first h_S_)).toInt)
    sliceFits_S15x2048x1024_S1x2048x1024) shapeCasts_S1x2048x1024_S2048x1024

/-- The logits of a hidden state. -/
def logits (h : FVec F S1x1024 .f32) (head : FVec F S2048x1024 .f32) : FVec F S2048 .f32 :=
  shapeCast S2048 (Host.dotGeneral dot_S1x1024_S1024x2048_S1x2048_1_0_0_1_n_n none h
    (transpose S1024x2048 [1, 0] head transposes_S2048x1024_S1024x2048_1_0)) shapeCasts_S1x2048_S2048

/-- The greatest logits with their positions. -/
def top (l : FVec F S2048 .f32) : FVec F S50 .f32 × IVec S50 32 :=
  Host.topK S50 0 (FloatOps.cmpfTotal .gt) l sliceFits_S2048_S50

/-- The values over the temperature. -/
def scaled (v : FVec F S50 .f32) (t : FVec F S_ .f32) : FVec F S50 .f32 := Host.divf v (broadcastInDim S50 ![] bcast_S_S50 t)

/-- The greatest entry. -/
def greatest (y : FVec F S50 .f32) : FVec F S_ .f32 :=
  maximumf (constant S_ .f32 0xFF800000#32)
    (Host.reduce FloatOps.maximumf y (constant S_ .f32 0xFF800000#32) reducesTo_S50_S_d0 h_S_)

/-- A scalar in every one of fifty entries. -/
def spread (x : FVec F S_ .f32) : FVec F S50 .f32 :=
  broadcastInDim S50 ![0] bcast_S1_S50_0 (broadcastInDim S1 ![] bcast_S_S1 x)

/-- The exponentials of the distances to the greatest entry. -/
def expo (y : FVec F S50 .f32) : FVec F S50 .f32 := Host.exp (subf y (spread (greatest y)))

/-- The entries over their sum. -/
def norm (e : FVec F S50 .f32) : FVec F S50 .f32 :=
  Host.divf e (spread (Host.reduceAdd e (constant S_ .f32 0x00000000#32) reducesTo_S50_S_d0 h_S_))

/-- The running sums. -/
def cumsum (p : FVec F S50 .f32) : FVec F S50 .f32 :=
  Host.reduceWindowAdd ![50] ![1] ![49] ![0] p (broadcastInDim S_ ![] bcast_S_S_ (constant S_ .f32 0x00000000#32))
    reduceWindows_S50_S50_w50s1p49_0 h_S_

/-- The uniform number kept off 0 and 1. -/
def clipped (u : FVec F S_ .f32) : FVec F S_ .f32 :=
  minimumf (constant S_ .f32 0x3F7FFFEF#32) (maximumf (constant S_ .f32 0x358637BD#32) u)

/-- 1 where a running sum reaches the number, else 0. -/
def hits (cd : FVec F S50 .f32) (s : FVec F S_ .f32) : IVec S50 32 :=
  extui 32 (cmpf .oge cd (broadcastInDim S50 ![] bcast_S_S50 s)) natLt_1_32

/-- The first position of the greatest entry. -/
def argmax (w : IVec S50 32) : IVec S_ 32 := fun j =>
  (Host.reduce2 reducer_argmax_i32_i32 w (iotaInDim S50 32 0) (constantI S_ 32 2147483648#32) (constantI S_ 32 0#32)
    reducesTo_S50_S_d0 h_S_ j).2

/-- A position counted from the end when it is negative, in an array of one entry. -/
def wrapped (n : BitVec 32) (i : IVec S_ 32) : IVec S1 32 :=
  broadcastInDim S1 ![] bcast_S_S1 (select (cmpi .slt i (constantI S_ 32 0#32)) (addi i (constantI S_ 32 n)) i)

/-- Whether the position lies between 0 and the last. -/
def inside (n : BitVec 32) (i : IVec S1 32) : IVec S_ 1 :=
  Host.reduce IntOp.andi (andi (cmpi .sge i (broadcastInDim S1 ![] bcast_S_S1 (constantI S_ 32 0#32))) (cmpi .sle i (constantI S1 32 n)))
    (constantI S_ 1 1#1) reducesTo_S1_S_d0 h_S_

/-- The entry of fifty at a position. -/
def takeIdx (x : IVec S50 32) (i : IVec S_ 32) : IVec S_ 32 :=
  select (inside 49#32 (wrapped 50#32 i)) (Host.gather gather_S50_S1_S__n_0_n_n_0_0_1 x (wrapped 50#32 i)) (constantI S_ 32 2147483648#32)

/-- The row of a table at a position. -/
def takeRow (x : FVec F S2048x1024 .f32) (i : IVec S_ 32) : FVec F S1024 .f32 :=
  select (broadcastInDim S1024 ![] bcast_S_S1024 (inside 2047#32 (wrapped 2048#32 i)))
    (Host.gather gather_S2048x1024_S1_S1024_0_0_n_n_0_0_11024 x (wrapped 2048#32 i))
    (broadcastInDim S1024 ![] bcast_S_S1024 (constant S_ .f32 0x7FC00000#32))

/-- A vector as a matrix of one row. -/
def asRow (r : FVec F S1024 .f32) : FVec F S1x1024 .f32 := broadcastInDim S1x1024 ![1] bcast_S1024_S1x1024_1 r

/-- The next hidden state. -/
def next (wt : FVec F S1024x1024 .f32) (bt : FVec F S1024 .f32) (r : FVec F S1x1024 .f32) : FVec F S1x1024 .f32 :=
  Host.tanh (addf (Host.dotGeneral dot_S1x1024_S1024x1024_S1x1024_1_0_0_1_n_n none r
    (transpose S1024x1024 [1, 0] wt transposes_S1024x1024_S1024x1024_1_0)) (asRow bt))

/-- The codes with the trip's code put in. -/
def putCode (codes : IVec S15 32) (code : IVec S_ 32) (i : IVec S_ 32) : IVec S15 32 :=
  Host.dynamicUpdateSlice codes (broadcastInDim S1 ![] bcast_S_S1 code)
    (fun k => ((![i] : Fin 1 → IVec S_ 32) k (Shape.Idx.first h_S_)).toInt) sliceFits_S15_S1

/-! ## The stretches -/

/-- The body's stretch `n`. -/
def stretch : ℕ → List (HloOp τ sig (Elt F))
  | 0 => while0Ops0 | 1 => while0Ops0_1 | 2 => while0Ops0_2 | 3 => while0Ops0_3 | 4 => while0Ops0_4 | 5 => while0Ops0_5
  | 6 => while0Ops0_6 | 7 => while0Ops0_7 | 8 => while0Ops0_8 | 9 => while0Ops0_9 | 10 => while0Ops0_10 | 11 => while0Ops0_11
  | 12 => while0Ops0_12 | _ => while0Ops0_13

/-- The buffers stretch `n` writes. -/
def written : ℕ → List (Ref sig .tc)
  | 0 => while0Ops0_W | 1 => while0Ops0_1_W | 2 => while0Ops0_2_W | 3 => while0Ops0_3_W | 4 => while0Ops0_4_W | 5 => while0Ops0_5_W
  | 6 => while0Ops0_6_W | 7 => while0Ops0_7_W | 8 => while0Ops0_8_W | 9 => while0Ops0_9_W | 10 => while0Ops0_10_W
  | 11 => while0Ops0_11_W | 12 => while0Ops0_12_W | _ => while0Ops0_13_W

/-- What the buffers hold after stretch `n`. -/
def pass (n : ℕ) (V : Valuation τ sig (Elt F)) : Valuation τ sig (Elt F) := after (stretch n) V

/-- Stretch `n` leaves a buffer it does not write. -/
theorem pass_kept (n : ℕ) (b : Ref sig .tc) (hb : b ∉ written n) (V : Valuation τ sig (Elt F)) :
    pass n V (no_index (Proc.devRef .tc b)) = V (Proc.devRef .tc b) := by
  refine after_of_writes_sub (stretch n) V (W := written n) ?_ hb
  unfold stretch written
  split
  exacts [while0Ops0_writes, while0Ops0_1_writes, while0Ops0_2_writes, while0Ops0_3_writes, while0Ops0_4_writes, while0Ops0_5_writes,
    while0Ops0_6_writes, while0Ops0_7_writes, while0Ops0_8_writes, while0Ops0_9_writes, while0Ops0_10_writes, while0Ops0_11_writes,
    while0Ops0_12_writes, while0Ops0_13_writes]

/-- The body is its stretches in order. -/
theorem body_passes (V : Valuation τ sig (Elt F)) :
    afterL bodyI V = pass 13 (pass 12 (pass 11 (pass 10 (pass 9 (pass 8 (pass 7 (pass 6 (pass 5 (pass 4 (pass 3 (pass 2 (pass 1
      (pass 0 V))))))))))))) := rfl

section Reads
variable (V : Valuation τ sig (Elt F))

/-- Stretch 0 computes the trip's uniform number. -/
theorem read0 : pass 0 V (no_index (Proc.devRef .tc main_while0b_v14))
    = unifAt (V (Proc.devRef .tc main_v13_0)) (V (Proc.devRef .tc main_v13_6)) := by
  show after while0Ops0 V _ = _
  after_results_simp_entrywise
  rfl

/-- Stretch 1 computes the trip's head. -/
theorem read1 : pass 1 V (no_index (Proc.devRef .tc main_while0b_v15))
    = planeAt (V (Proc.devRef .tc main_v13_1)) (V (Proc.devRef .tc main_v13_6)) := by
  show after while0Ops0_1 V _ = _
  after_results_simp_entrywise
  rfl

/-- Stretch 2 computes the trip's table. -/
theorem read2 : pass 2 V (no_index (Proc.devRef .tc main_while0b_v16))
    = planeAt (V (Proc.devRef .tc main_v13_2)) (V (Proc.devRef .tc main_v13_6)) := by
  show after while0Ops0_2 V _ = _
  after_results_simp_entrywise
  rfl

/-- Stretch 3 computes the softmax of the greatest logits over the temperature. -/
theorem read3 : pass 3 V (no_index (Proc.devRef .tc main_while0b_v31))
    = norm (expo (scaled (top (logits (V (Proc.devRef .tc main_v13_7)) (V (Proc.devRef .tc main_while0b_v15)))).1 (V (Proc.devRef .tc main_v13_3)))) := by
  show after while0Ops0_3 V _ = _
  after_results_simp_entrywise
  rfl

/-- Stretch 3 computes the positions of the greatest logits. -/
theorem read3_indices : pass 3 V (no_index (Proc.devRef .tc main_while0b_indices))
    = (top (logits (V (Proc.devRef .tc main_v13_7)) (V (Proc.devRef .tc main_while0b_v15)))).2 := by
  show after while0Ops0_3 V _ = _
  after_results_simp_entrywise
  rfl

/-- Stretch 4 computes the running sums. -/
theorem read4 : pass 4 V (no_index (Proc.devRef .tc main_while0b_v32))
    = cumsum (V (Proc.devRef .tc main_while0b_v31)) := by
  show after while0Ops0_4 V _ = _
  after_results_simp_entrywise
  rfl

/-- Stretch 5 computes the lower bound of the number. -/
theorem read5_low : pass 5 V (no_index (Proc.devRef .tc main_while0b_cst_13))
    = constant S_ .f32 0x358637BD#32 := by
  show after while0Ops0_5 V _ = _
  after_results_simp_entrywise

/-- Stretch 5 computes the upper bound of the number. -/
theorem read5_high : pass 5 V (no_index (Proc.devRef .tc main_while0b_cst_14))
    = constant S_ .f32 0x3F7FFFEF#32 := by
  show after while0Ops0_5 V _ = _
  after_results_simp_entrywise

/-- Stretch 6 computes the number between its bounds. -/
theorem read6 : pass 6 V (no_index (Proc.devRef .tc main_while0b_v33))
    = minimumf (V (Proc.devRef .tc main_while0b_cst_14)) (maximumf (V (Proc.devRef .tc main_while0b_cst_13)) (V (Proc.devRef .tc main_while0b_v14))) := by
  show after while0Ops0_6 V _ = _
  after_results_simp_entrywise
  rfl

/-- Stretch 7 computes where the running sums reach the number. -/
theorem read7 : pass 7 V (no_index (Proc.devRef .tc main_while0b_v36))
    = hits (V (Proc.devRef .tc main_while0b_v32)) (V (Proc.devRef .tc main_while0b_v33)) := by
  show after while0Ops0_7 V _ = _
  after_results_simp_entrywise
  rfl

/-- Stretch 8 computes the first such place. -/
theorem read8 : pass 8 V (no_index (Proc.devRef .tc main_while0b_v37))
    = argmax (V (Proc.devRef .tc main_while0b_v36)) := by
  show after while0Ops0_8 V _ = _
  after_results_simp_entrywise
  rfl

/-- Stretch 9 computes the code. -/
theorem read9 : pass 9 V (no_index (Proc.devRef .tc main_while0b_v38))
    = takeIdx (V (Proc.devRef .tc main_while0b_indices)) (V (Proc.devRef .tc main_while0b_v37)) := by
  show after while0Ops0_9 V _ = _
  after_results_simp_entrywise
  rfl

/-- Stretch 10 computes the table's row. -/
theorem read10 : pass 10 V (no_index (Proc.devRef .tc main_while0b_v39))
    = takeRow (V (Proc.devRef .tc main_while0b_v16)) (V (Proc.devRef .tc main_while0b_v38)) := by
  show after while0Ops0_10 V _ = _
  after_results_simp_entrywise
  rfl

/-- Stretch 11 computes the next hidden state. -/
theorem read11 : pass 11 V (no_index (Proc.devRef .tc main_while0b_v45))
    = next (V (Proc.devRef .tc main_v13_4)) (V (Proc.devRef .tc main_v13_5)) (asRow (V (Proc.devRef .tc main_while0b_v39))) := by
  show after while0Ops0_11 V _ = _
  after_results_simp_entrywise
  rfl

/-- Stretch 11 computes the sum with the row added. -/
theorem read11_sum : pass 11 V (no_index (Proc.devRef .tc main_while0b_v46))
    = addf (V (Proc.devRef .tc main_v13_8)) (asRow (V (Proc.devRef .tc main_while0b_v39))) := by
  show after while0Ops0_11 V _ = _
  after_results_simp_entrywise
  rfl

/-- Stretch 12 computes the codes with the code put in. -/
theorem read12 : pass 12 V (no_index (Proc.devRef .tc main_while0b_v47))
    = putCode (V (Proc.devRef .tc main_v13_9)) (V (Proc.devRef .tc main_while0b_v38)) (V (Proc.devRef .tc main_v13_6)) := by
  show after while0Ops0_12 V _ = _
  after_results_simp_entrywise
  rfl

/-- Stretch 13 computes the hidden state carried on. -/
theorem read13_hidden : pass 13 V (no_index (Proc.devRef .tc main_v13_7))
    = (V (Proc.devRef .tc main_while0b_v45)) := by
  show after while0Ops0_13 V _ = _
  after_results_simp_entrywise
  rfl

/-- Stretch 13 computes the sum carried on. -/
theorem read13_sum : pass 13 V (no_index (Proc.devRef .tc main_v13_8))
    = (V (Proc.devRef .tc main_while0b_v46)) := by
  show after while0Ops0_13 V _ = _
  after_results_simp_entrywise
  rfl

/-- Stretch 13 computes the codes carried on. -/
theorem read13_codes : pass 13 V (no_index (Proc.devRef .tc main_v13_9))
    = (V (Proc.devRef .tc main_while0b_v47)) := by
  show after while0Ops0_13 V _ = _
  after_results_simp_entrywise
  rfl

end Reads

/-! ## The trip -/

/-- The slot drawn from the greatest logits. -/
def slot (l : FVec F S2048 .f32) (t u : FVec F S_ .f32) : IVec S_ 32 :=
  argmax (hits (cumsum (norm (expo (scaled (top l).1 t)))) (clipped u))

/-- The code sampled from the logits. -/
def sampled (l : FVec F S2048 .f32) (t u : FVec F S_ .f32) : IVec S_ 32 := takeIdx (top l).2 (slot l t u)

section Trip
variable (V : Valuation τ sig (Elt F))

/-- The code of the trip that starts from these contents. -/
def tripCode : IVec S_ 32 :=
  sampled (logits (V (Proc.devRef .tc main_v13_7)) (planeAt (V (Proc.devRef .tc main_v13_1)) (V (Proc.devRef .tc main_v13_6))))
    (V (Proc.devRef .tc main_v13_3)) (unifAt (V (Proc.devRef .tc main_v13_0)) (V (Proc.devRef .tc main_v13_6)))

/-- The table's row at that code. -/
def tripRow : FVec F S1x1024 .f32 :=
  asRow (takeRow (planeAt (V (Proc.devRef .tc main_v13_2)) (V (Proc.devRef .tc main_v13_6))) (tripCode V))

/-- The trip's hidden state. -/
theorem body_hidden : afterL bodyI V (Proc.devRef .tc main_v13_7)
    = next (V (Proc.devRef .tc main_v13_4)) (V (Proc.devRef .tc main_v13_5)) (tripRow V) := by
  rw [body_passes]
  simp (disch := decide) only [pass_kept, read0, read1, read2, read3, read3_indices, read4, read5_low, read5_high, read6, read7, read8,
    read9, read10, read11, read13_hidden]
  rfl

/-- The trip's sum. -/
theorem body_sum : afterL bodyI V (Proc.devRef .tc main_v13_8) = addf (V (Proc.devRef .tc main_v13_8)) (tripRow V) := by
  rw [body_passes]
  simp (disch := decide) only [pass_kept, read0, read1, read2, read3, read3_indices, read4, read5_low, read5_high, read6, read7, read8,
    read9, read10, read11_sum, read13_sum]
  rfl

/-- The trip's codes. -/
theorem body_codes : afterL bodyI V (Proc.devRef .tc main_v13_9)
    = putCode (V (Proc.devRef .tc main_v13_9)) (tripCode V) (V (Proc.devRef .tc main_v13_6)) := by
  rw [body_passes]
  simp (disch := decide) only [pass_kept, read0, read1, read3, read3_indices, read4, read5_low, read5_high, read6, read7, read8,
    read9, read12, read13_codes]
  rfl

end Trip

end Cert.ReferenceIdeal.Value
end
-- ==== Proof.RefSample.lean ====
/-
  The reference's trip at the extended reals: the fifty greatest logits, the softmax's running sums, the slot they draw, and
  the two lookups.
-/
module

public import proofs.«01_k».proof.Proof.Trip
public import proofs.«01_k».proof.Proof.Ranks
public import proofs.«01_k».proof.Proof.Draw
public import Idealize.ShloMosaic.Lib.Pointwise
public import Idealize.ShloMosaic.Lib.ValueIdx
public import Idealize.ShloMosaic.Lib.DynamicIndex
public import Idealize.ShloMosaic.Lib.Routing.Ops

@[expose] public section

noncomputable section

namespace Cert.ReferenceIdeal.Value

open Cert.ReferenceIdeal.Gen
open Idealize.ShloMosaic

/-- The entries of a vector. -/
abbrev entries {α : Type} {n : ℕ} (v : (⟨1, ![n]⟩ : Shape).Idx → α) : Fin n → α := fun k => v (ix1 k)

/-- A scalar has one index. -/
theorem eq_ix0 (j : S_.Idx) : j = ix0 := funext fun a => a.elim0

theorem toInt_small {n : ℕ} (h : n < 2147483648) : (BitVec.ofNat 32 n).toInt = n := toInt_ofNat_of_lt h

/-! ## The logits -/

theorem logits_at (h : FVec Ideal S1x1024 .f32) (head : FVec Ideal S2048x1024 .f32) (k : Fin 2048) :
    logits h head (ix1 k) = ∑ j : Fin 1024, h (ix2 0 j) * head (ix2 k j) := by
  unfold logits
  simp only [pointwise]
  exact zero_add _

theorem next_at (wt : FVec Ideal S1024x1024 .f32) (bt : FVec Ideal S1024 .f32) (r : FVec Ideal S1x1024 .f32) (k : Fin 1024) :
    next wt bt r (ix2 0 k) = Ideal.tanh ((∑ j : Fin 1024, r (ix2 0 j) * wt (ix2 k j)) + bt (ix1 k)) := by
  unfold next asRow
  simp only [pointwise, zero_add]
  rfl

theorem asRow_at (r : FVec Ideal S1024 .f32) (k : Fin 1024) : asRow r (ix2 0 k) = r (ix1 k) := by
  unfold asRow
  simp only [pointwise]
  rfl

/-! ## The fifty greatest -/

/-- The positions of the logits in order. -/
def order (l : FVec Ideal S2048 .f32) : Fin 2048 → Fin 2048 := sortedFrom (Sampling.greater (entries l))

theorem order_ranked (l : FVec Ideal S2048 .f32) : Sampling.Ranked (entries l) (order l) := Sampling.ranked_sortedFrom _

/-- Replacing the coordinate of a vector's index. -/
theorem along_eq (j : S2048.Idx) (k : Fin 2048) : j.along (0 : Fin 1) k = ix1 k := by
  funext a
  obtain rfl : a = 0 := Subsingleton.elim _ _
  exact Function.update_self ..

/-- The sort's comparison is that of the logits. -/
theorem before_eq (l : FVec Ideal S2048 .f32) (j : S2048.Idx) :
    (fun k k' : Fin 2048 => FloatOps.cmpfTotal (F := Ideal) .gt (l (j.along (0 : Fin 1) k)) (l (j.along (0 : Fin 1) k')) == 1#1)
      = Sampling.greater (entries l) := by
  funext k k'
  rw [along_eq, along_eq]
  show (BitVec.ofBool (decide (l (ix1 k') < l (ix1 k))) == 1#1) = decide (l (ix1 k') < l (ix1 k))
  cases decide (l (ix1 k') < l (ix1 k)) <;> rfl

theorem top_values (l : FVec Ideal S2048 .f32) (k : Fin 50) : (top l).1 (ix1 k) = entries l (order l (k.castLE (by decide))) := by
  unfold top Host.topK Host.sort2
  simp only [pointwise]
  rw [dif_pos (by decide)]
  dsimp only
  rw [before_eq, along_eq, order]
  congr 4
  exact Fin.ext (Nat.zero_add _)

theorem top_indices (l : FVec Ideal S2048 .f32) (k : Fin 50) :
    (top l).2 (ix1 k) = BitVec.ofNat 32 (order l (k.castLE (by decide))).val := by
  unfold top Host.topK Host.sort2
  simp only [pointwise]
  rw [dif_pos (by decide)]
  dsimp only
  rw [dif_pos (by decide), before_eq, along_eq, order]
  exact congrArg (fun i : Fin 2048 => BitVec.ofNat 32 (sortedFrom (Sampling.greater (entries l)) i).val)
    (Fin.ext (Nat.zero_add _))

/-! ## The softmax's running sums -/

theorem scaled_at (v : FVec Ideal S50 .f32) (t : FVec Ideal S_ .f32) : entries (scaled v t) = Sampling.scaled (entries v) (t ix0) := by
  funext k
  unfold scaled
  simp only [pointwise, entries]
  rfl

theorem greatest_at (y : FVec Ideal S50 .f32) (j : S_.Idx) : greatest y j = Sampling.peak (entries y) := by
  unfold greatest
  simp only [pointwise]
  exact max_eq_right bot_le

theorem expo_at (y : FVec Ideal S50 .f32) : entries (expo y) = Sampling.weight (entries y) := by
  funext k
  unfold expo spread
  simp only [pointwise, entries, greatest_at]
  rfl

theorem norm_at (y : FVec Ideal S50 .f32) : entries (norm (expo y)) = Sampling.share (entries y) := by
  have e := expo_at y
  funext k
  unfold norm spread
  simp only [pointwise, entries, zero_add] at e ⊢
  rw [Sampling.share, ← expo_at]

/-- A left fold over all positions keeps what each step keeps. -/
theorem foldl_positions {β : Type} {N : ℕ} (f : β → Fin N → β) (b : β) (P : ℕ → β → Prop) (h0 : P 0 b)
    (hs : ∀ (k : Fin N) r, P k.val r → P (k.val + 1) (f r k)) : P N ((List.finRange N).foldl f b) := by
  induction N with
  | zero => exact h0
  | succ n ih =>
    rw [List.finRange_succ_last, List.foldl_append, List.foldl_map]
    exact hs (Fin.last n) _ (ih (fun r k => f r k.castSucc) fun k r hr => hs k.castSucc r hr)

theorem numel50 : S50.numel = 50 := Shape.numel_rank1 _

theorem position (n : Fin S50.numel) : S50.rowMajor.symm n = ix1 (n.cast numel50) := Routing.symm1 (N := 50) n

theorem cumsum_at (p : FVec Ideal S50 .f32) : entries (cumsum p) = Sampling.cumul (entries p) := by
  funext j
  show Host.reduceWindow (fun a b : EReal => a + b) ![50] ![1] ![49] ![0] p
    (broadcastInDim S_ ![] bcast_S_S_ (constant (F := Ideal) S_ .f32 0x00000000#32)) reduceWindows_S50_S50_w50s1p49_0 h_S_ (ix1 j) = _
  unfold Host.reduceWindow
  dsimp only
  have hj := j.isLt
  refine (foldl_positions _ _ (fun k r => r = ∑ i : Fin 50, if i.val + 49 < j.val + k then entries p i else 0) ?_ ?_).trans ?_
  · simp only [pointwise]
    refine (Finset.sum_eq_zero fun i _ => if_neg ?_).symm
    omega
  · intro n r hr
    have hn : n.val < 50 := n.isLt.trans_eq numel50
    have hw : ((⟨S50.rank, ![50]⟩ : Shape).rowMajor.symm n 0).val = n.val := congrArg (fun i : S50.Idx => (i 0).val) (position n)
    have hin : (∀ a : Fin 1, (![49] : Fin 1 → ℕ) a ≤ (ix1 j a).val * (![1] : Fin 1 → ℕ) a + (S50.rowMajor.symm n a).val
        ∧ (ix1 j a).val * (![1] : Fin 1 → ℕ) a + (S50.rowMajor.symm n a).val - (![49] : Fin 1 → ℕ) a < (![50] : Fin 1 → ℕ) a)
        ↔ 49 ≤ j.val + n.val := by
      have e : (∀ a : Fin 1, (![49] : Fin 1 → ℕ) a ≤ (ix1 j a).val * (![1] : Fin 1 → ℕ) a + (S50.rowMajor.symm n a).val
          ∧ (ix1 j a).val * (![1] : Fin 1 → ℕ) a + (S50.rowMajor.symm n a).val - (![49] : Fin 1 → ℕ) a < (![50] : Fin 1 → ℕ) a)
          ↔ (49 ≤ j.val * 1 + (S50.rowMajor.symm n 0).val ∧ j.val * 1 + (S50.rowMajor.symm n 0).val - 49 < 50) :=
        ⟨fun h => h 0, fun h a => by obtain rfl : a = 0 := Subsingleton.elim _ _; exact h⟩
      rw [e]
      change (S50.rowMajor.symm n 0).val = n.val at hw
      omega
    have hsplit : ∀ i : Fin 50, (if i.val + 49 < j.val + (n.val + 1) then entries p i else 0)
        = (if i.val + 49 < j.val + n.val then entries p i else 0) + (if i.val + 49 = j.val + n.val then entries p i else 0) := by
      intro i
      rcases lt_trichotomy (i.val + 49) (j.val + n.val) with h | h | h
      · rw [if_pos (by omega), if_pos h, if_neg (by omega), add_zero]
      · rw [if_pos (by omega), if_neg (by omega), if_pos h, zero_add]
      · rw [if_neg (by omega), if_neg (by omega), if_neg (by omega), add_zero]
    rw [Finset.sum_congr rfl fun i _ => hsplit i, Finset.sum_add_distrib, ← hr]
    refine congrArg (r + ·) ?_
    by_cases hq : 49 ≤ j.val + n.val
    · refine (dif_pos (hin.mpr hq)).trans ?_
      have hi : ∀ i : Fin 50, (i.val + 49 = j.val + n.val) ↔ i = ⟨j.val + n.val - 49, by omega⟩ := fun i => by
        rw [Fin.ext_iff]
        show i.val + 49 = j.val + n.val ↔ i.val = j.val + n.val - 49
        omega
      simp only [hi, Finset.sum_ite_eq', Finset.mem_univ, if_true]
      refine congrArg p (funext fun a => Fin.ext ?_)
      obtain rfl : a = 0 := Subsingleton.elim _ _
      change (S50.rowMajor.symm n 0).val = n.val at hw
      show j.val * 1 + (S50.rowMajor.symm n 0).val - 49 = j.val + n.val - 49
      omega
    · refine (dif_neg fun h => hq (hin.mp h)).trans ?_
      rw [Finset.sum_eq_zero fun i _ => if_neg (by omega)]
      simp only [pointwise]
  · refine Finset.sum_congr rfl fun i _ => if_congr ?_ rfl rfl
    rw [Fin.le_def, show (⟨S50.rank, ![50]⟩ : Shape).numel = 50 from numel50]
    omega

/-! ## The slot -/

theorem hits_at (cd : FVec Ideal S50 .f32) (s : FVec Ideal S_ .f32) (k : Fin 50) :
    hits cd s (ix1 k) = if s ix0 ≤ cd (ix1 k) then 1#32 else 0#32 := by
  unfold hits
  simp only [pointwise]
  by_cases h : s ix0 ≤ cd (ix1 k) <;> simp [h]

theorem clipped_at (u : FVec Ideal S_ .f32) (j : S_.Idx) :
    clipped u j = min (Ideal.ofBits .f32 0x3F7FFFEF#32) (max (Ideal.ofBits .f32 0x358637BD#32) (u ix0)) := by
  rw [eq_ix0 j]
  unfold clipped
  simp only [pointwise]

/-- What the arg-max reducer keeps of two pairs: the first where its value is greater, or the values agree and its position is
    lower. -/
theorem reducer_eq (a b : BitVec 32 × BitVec 32) : reducer_argmax_i32_i32 a b
    = (if b.1.slt a.1 then a.1 else b.1, if b.1.slt a.1 ∨ (a.1 = b.1 ∧ a.2.slt b.2) then a.2 else b.2) := by
  have ho : ∀ p q : Bool, IntOp.ori (BitVec.ofBool p) (BitVec.ofBool q) = BitVec.ofBool (p || q) := by decide
  have ha : ∀ p q : Bool, IntOp.andi (BitVec.ofBool p) (BitVec.ofBool q) = BitVec.ofBool (p && q) := by decide
  unfold reducer_argmax_i32_i32
  simp only [IntOp.cmpi, ho, ha]
  have hsel : ∀ (p : Bool) (x y : BitVec 32), Scalar.select (BitVec.ofBool p) x y = if p then x else y := by
    intro p x y; cases p <;> rfl
  simp only [hsel]
  simp

/-- The positions seen so far hold `a` at their first greatest entry, at position `i`; entries are 0 or 1. -/
def Seen (hit : Fin 50 → Bool) (k : ℕ) (r : BitVec 32 × BitVec 32) : Prop :=
  (∃ d : Fin 50, d.val < k ∧ hit d = true ∧ (∀ j < d, hit j = false) ∧ r = (1#32, BitVec.ofNat 32 d.val))
    ∨ ((∀ d : Fin 50, d.val < k → hit d = false) ∧ r = (if k = 0 then 2147483648#32 else 0#32, 0#32))

/-- One more position. -/
theorem seen_step (hit : Fin 50 → Bool) (k : Fin 50) (r : BitVec 32 × BitVec 32) (h : Seen hit k.val r) :
    Seen hit (k.val + 1) (reducer_argmax_i32_i32 r (if hit k then 1#32 else 0#32, BitVec.ofNat 32 k.val)) := by
  have hslt : ∀ a b : Fin 50, (BitVec.ofNat 32 a.val).slt (BitVec.ofNat 32 b.val) = decide (a < b) := fun a b => by
    rw [BitVec.slt, toInt_small (by omega), toInt_small (by omega)]; simp
  rw [reducer_eq]
  rcases h with ⟨d, hd, hhit, hlt, rfl⟩ | ⟨hno, rfl⟩
  · refine .inl ⟨d, by omega, hhit, hlt, ?_⟩
    have hdk : d < k := hd
    cases hit k <;> simp [hslt, hdk]
  · have hprev : ∀ j < k, hit j = false := fun j hj => hno j hj
    cases hk : hit k with
    | true =>
      refine .inl ⟨k, Nat.lt_succ_self _, hk, hprev, ?_⟩
      by_cases h0 : k.val = 0 <;> simp [h0]
    | false =>
      refine .inr ⟨fun d hd => ?_, ?_⟩
      · rcases lt_or_eq_of_le (Nat.lt_succ_iff.mp hd) with h | h
        · exact hprev d h
        · rw [Fin.ext h]; exact hk
      · by_cases h0 : k.val = 0
        · simp [h0]
        · have := hslt 0 k
          have hpos : (0 : Fin 50) < k := Fin.pos_iff_ne_zero.mpr fun e => h0 (e ▸ rfl)
          have this' : (0#32).slt (BitVec.ofNat 32 k.val) = true := this.trans (decide_eq_true hpos)
          simp [h0, this']

/-- The first place of a 1 among 0s and 1s, or the first place of all. -/
theorem argmax_seen (hit : Fin 50 → Bool) (w : IVec S50 32) (hw : ∀ k, w (ix1 k) = if hit k then 1#32 else 0#32) :
    ∃ d : Fin 50, ((hit d = true ∧ ∀ j < d, hit j = false) ∨ ((∀ j, hit j = false) ∧ d.val = 0))
      ∧ ∀ j, argmax w j = BitVec.ofNat 32 d.val := by
  have hs : Seen hit 50 (Host.reduce2 reducer_argmax_i32_i32 w (iotaInDim S50 32 0) (constantI S_ 32 2147483648#32)
      (constantI S_ 32 0#32) reducesTo_S50_S_d0 h_S_ ix0) := by
    unfold Host.reduce2
    rw [List.filter_eq_self.2 fun n _ => decide_eq_true (funext fun a => a.elim0)]
    have := foldl_positions (N := S50.numel) (fun r n => reducer_argmax_i32_i32 r
      (w (S50.rowMajor.symm n), iotaInDim S50 32 0 (S50.rowMajor.symm n))) (2147483648#32, 0#32) (Seen hit)
      (.inr ⟨fun d hd => absurd hd (Nat.not_lt_zero _), rfl⟩) (fun n r hr => by
        have h := seen_step hit (n.cast numel50) r hr
        rw [position, hw]
        exact h)
    have hN : ∀ (N : ℕ) r, N = 50 → Seen hit N r → Seen hit 50 r := by
      rintro _ r rfl h
      exact h
    exact hN _ _ numel50 this
  rcases hs with ⟨d, -, hhit, hlt, e⟩ | ⟨hno, e⟩
  · exact ⟨d, .inl ⟨hhit, hlt⟩, fun j => by rw [eq_ix0 j]; exact congrArg Prod.snd e⟩
  · exact ⟨0, .inr ⟨fun j => hno j j.isLt, rfl⟩, fun j => by rw [eq_ix0 j]; exact congrArg Prod.snd e⟩

/-- The slot is one drawn from the softmax of the greatest logits over the temperature. -/
theorem slot_draws (l : FVec Ideal S2048 .f32) (t u : FVec Ideal S_ .f32) :
    ∃ d : Fin 50, Sampling.Draws (Sampling.distribution (fun k : Fin 50 => entries l (order l (k.castLE (by decide)))) (t ix0))
      (clipped u ix0) d ∧ ∀ j, slot l t u j = BitVec.ofNat 32 d.val := by
  have hc : entries (cumsum (norm (expo (scaled (top l).1 t))))
      = Sampling.distribution (fun k : Fin 50 => entries l (order l (k.castLE (by decide)))) (t ix0) := by
    rw [cumsum_at, norm_at, scaled_at, Sampling.distribution]
    refine congrArg (fun v => Sampling.cumul (Sampling.share (Sampling.scaled v (t ix0)))) ?_
    funext k
    exact top_values l k
  rw [← hc]
  obtain ⟨d, hd, he⟩ := argmax_seen
    (fun k => decide (clipped u ix0 ≤ cumsum (norm (expo (scaled (top l).1 t))) (ix1 k)))
    (hits (cumsum (norm (expo (scaled (top l).1 t)))) (clipped u)) (fun k => by rw [hits_at]; simp)
  refine ⟨d, ?_, he⟩
  simpa [Sampling.Draws] using hd

/-! ## The lookups -/

theorem wrapped_at (n : BitVec 32) (i : IVec S_ 32) (d : ℕ) (hd : d < 2147483648) (hi : i ix0 = BitVec.ofNat 32 d) :
    wrapped n i = fun _ => BitVec.ofNat 32 d := by
  funext y
  obtain ⟨k, rfl⟩ : ∃ k : Fin 1, y = ix1 k := ⟨y 0, funext fun a => by obtain rfl : a = 0 := Subsingleton.elim _ _; rfl⟩
  unfold wrapped
  simp only [pointwise]
  have hslt : (BitVec.ofNat 32 d).slt 0#32 = false := by
    simp [BitVec.slt, toInt_small hd]
  rw [hi]
  simp [IntOp.cmpi, hslt, Scalar.select]

theorem inside_at (n d : ℕ) (hn : n < 2147483648) (hd : d ≤ n) (j : S_.Idx) :
    inside (BitVec.ofNat 32 n) (fun _ => BitVec.ofNat 32 d) j = 1#1 := by
  rw [eq_ix0 j]
  unfold inside
  simp only [pointwise]
  have h0 : (0#32).sle (BitVec.ofNat 32 d) = true := by simp [BitVec.sle, toInt_small (show d < 2147483648 by omega)]
  have h1 : (BitVec.ofNat 32 d).sle (BitVec.ofNat 32 n) = true := by
    simp [BitVec.sle, toInt_small (show d < 2147483648 by omega), toInt_small hn, hd]
  simp [IntOp.cmpi, h0, h1]
  decide

theorem takeIdx_at (x : IVec S50 32) (i : IVec S_ 32) (d : Fin 50) (hi : i ix0 = BitVec.ofNat 32 d.val) (j : S_.Idx) :
    takeIdx x i j = x (ix1 d) := by
  rw [eq_ix0 j]
  unfold takeIdx
  simp only [pointwise]
  rw [wrapped_at _ i d.val (by omega) hi, inside_at 49 d.val (by decide) (by omega)]
  show Host.gather gather_S50_S1_S__n_0_n_n_0_0_1 x _ ix0 = _
  unfold Host.gather
  refine congrArg x (funext fun a => Fin.ext ?_)
  obtain rfl : a = 0 := Subsingleton.elim _ _
  show min (BitVec.ofNat 32 d.val).toInt.toNat 49 + 0 + 0 = d.val
  rw [toInt_small (by omega)]
  show min d.val 49 + 0 + 0 = d.val
  omega

theorem takeRow_at (x : FVec Ideal S2048x1024 .f32) (i : IVec S_ 32) (n : Fin 2048) (hi : i ix0 = BitVec.ofNat 32 n.val) (k : Fin 1024) :
    takeRow x i (ix1 k) = x (ix2 n k) := by
  unfold takeRow
  simp only [pointwise]
  rw [wrapped_at _ i n.val (by omega) hi, inside_at 2047 n.val (by decide) (by omega)]
  show Host.gather gather_S2048x1024_S1_S1024_0_0_n_n_0_0_11024 x _ (ix1 k) = _
  unfold Host.gather
  refine congrArg x (funext fun a => Fin.ext ?_)
  match a with
  | ⟨0, _⟩ =>
    show min (BitVec.ofNat 32 n.val).toInt.toNat 2047 + 0 + 0 = n.val
    rw [toInt_small (by omega)]
    show min n.val 2047 + 0 + 0 = n.val
    omega
  | ⟨1, _⟩ =>
    show 0 + 0 + k.val = k.val
    omega

/-- THE CODE: the code sampled is the position of the logit that the slot drawn names. -/
theorem sampled_eq (l : FVec Ideal S2048 .f32) (t u : FVec Ideal S_ .f32) :
    ∃ d : Fin 50, Sampling.Draws (Sampling.distribution (fun k : Fin 50 => entries l (order l (k.castLE (by decide)))) (t ix0))
      (clipped u ix0) d ∧ ∀ j, sampled l t u j = BitVec.ofNat 32 (order l (d.castLE (by decide))).val := by
  obtain ⟨d, hd, he⟩ := slot_draws l t u
  exact ⟨d, hd, fun j => (takeIdx_at _ _ d (he ix0) j).trans (top_indices l d)⟩

/-! ## The trip's operands -/

theorem unifAt_at (x : FVec Ideal S15 .f32) (i : IVec S_ 32) (g : Fin 15) (hi : i ix0 = BitVec.ofNat 32 g.val) (j : S_.Idx) :
    unifAt x i j = x (ix1 g) := by
  rw [eq_ix0 j]
  unfold unifAt
  rw [Host.dynamicSlice_eq_extractStridedSlice S1 x _ ![g.val] _ ⟨rfl, fun a => by
    obtain rfl : a = 0 := Subsingleton.elim _ _
    show g.val + 1 ≤ 15
    omega⟩ fun a => by
    obtain rfl : a = 0 := Subsingleton.elim _ _
    show (i (Shape.Idx.first h_S_)).toInt = (g.val : ℤ)
    rw [eq_ix0 (Shape.Idx.first h_S_), hi, toInt_small (by omega)]]
  simp only [pointwise]
  refine congrArg x (funext fun a => ?_)
  obtain rfl : a = 0 := Subsingleton.elim _ _
  rfl

theorem planeAt_at (x : FVec Ideal S15x2048x1024 .f32) (i : IVec S_ 32) (g : Fin 15) (hi : i ix0 = BitVec.ofNat 32 g.val)
    (n : Fin 2048) (k : Fin 1024) : planeAt x i (ix2 n k) = x (ix3 g n k) := by
  unfold planeAt
  rw [Host.dynamicSlice_eq_extractStridedSlice S1x2048x1024 x _ ![g.val, 0, 0] _ ⟨rfl, fun a => by
    match a with
    | ⟨0, _⟩ => show g.val + 1 ≤ 15; omega
    | ⟨1, _⟩ => exact le_of_eq (Nat.zero_add 2048)
    | ⟨2, _⟩ => exact le_of_eq (Nat.zero_add 1024)⟩ fun a => by
    match a with
    | ⟨0, _⟩ =>
      show (i (Shape.Idx.first h_S_)).toInt = (g.val : ℤ)
      rw [eq_ix0 (Shape.Idx.first h_S_), hi, toInt_small (by omega)]
    | ⟨1, _⟩ => rfl
    | ⟨2, _⟩ => rfl]
  simp only [pointwise]
  refine congrArg x (funext fun a => Fin.ext ?_)
  match a with
  | ⟨0, _⟩ => rfl
  | ⟨1, _⟩ => exact Nat.zero_add _
  | ⟨2, _⟩ => exact Nat.zero_add _

theorem putCode_at (codes : IVec S15 32) (code : IVec S_ 32) (i : IVec S_ 32) (g : Fin 15) (hi : i ix0 = BitVec.ofNat 32 g.val)
    (k : Fin 15) : putCode codes code i (ix1 k) = if k = g then code ix0 else codes (ix1 k) := by
  unfold putCode
  simp only [pointwise]
  refine if_congr ?_ rfl rfl
  have hs : Host.clampedStart S15 S1 rfl (fun k => ((![i] : Fin 1 → IVec S_ 32) k (Shape.Idx.first h_S_)).toInt) 0 = g.val := by
    show (min (max (i (Shape.Idx.first h_S_)).toInt 0) ((15 - 1 : ℕ) : ℤ)).toNat = g.val
    rw [eq_ix0 (Shape.Idx.first h_S_), hi, toInt_small (by omega)]
    omega
  constructor
  · intro h
    have h0 := h 0
    rw [hs] at h0
    change g.val ≤ k.val ∧ k.val < g.val + 1 at h0
    exact Fin.ext (by omega)
  · rintro rfl a
    obtain rfl : a = 0 := Subsingleton.elim _ _
    rw [hs]
    exact ⟨le_rfl, Nat.lt_succ_self _⟩

end Cert.ReferenceIdeal.Value
end
-- ==== Proof.Agree.lean ====
/-
  The two programs' steps agree at the extended reals: the first hidden state, the code, the table's row, and what a point or
  trip leaves.
-/
module

public import proofs.«01_k».proof.Proof.Launch
public import proofs.«01_k».proof.Proof.Sample
public import proofs.«01_k».proof.Proof.RefSample

@[expose] public section

noncomputable section

namespace Cert.Agree

open Idealize.ShloMosaic
open Cert.KernelIdeal.Model (row floored)
open Cert.ReferenceIdeal.Value (entries)

open Cert.KernelIdeal Cert.KernelIdeal.Gen

/-- Arrays of one row are equal when their rows are. -/
theorem row_ext {α : Type} {n : ℕ} {x y : (⟨2, ![1, n]⟩ : Shape).Idx → α} (h : ∀ k : Fin n, x (ix2 0 k) = y (ix2 0 k)) : x = y := by
  funext j
  have e : j = ix2 0 (j 1) := by
    funext a
    match a with
    | ⟨0, _⟩ => exact Subsingleton.elim (α := Fin 1) _ _
    | ⟨1, _⟩ => rfl
  rw [e]
  exact h _

/-- The kernel's logits, an entry at a time. -/
theorem logits_at (h : FVec Ideal S1x1024 .f32) (head : FVec Ideal S1x2048x1024 .f32) (k : Fin 2048) :
    Model.logits (F := Ideal) h head (ix2 0 k) = ∑ j : Fin 1024, h (ix2 0 j) * head (ix3 0 k j) := by
  unfold Model.logits k0_pay6
  simp only [pointwise, zero_add]

/-- The kernel's next hidden state, an entry at a time. -/
theorem next_at (wt : FVec Ideal S1024x1024 .f32) (bt r : FVec Ideal S1x1024 .f32) (k : Fin 1024) :
    k0_pay1 (k0_pay186 (F := Ideal) wt (k0_pay2 bt) r) (ix2 0 k)
      = Ideal.tanh ((∑ j : Fin 1024, r (ix2 0 j) * wt (ix2 k j)) + bt (ix2 0 k)) := by
  unfold k0_pay1 k0_pay186 k0_pay2
  simp only [pointwise, zero_add]

/-- The kernel's first hidden state, an entry at a time. -/
theorem start_at (wt : FVec Ideal S1024x1024 .f32) (bt r : FVec Ideal S1x1024 .f32) (k : Fin 1024) :
    k0_pay4 (F := Ideal) wt bt r (ix2 0 k)
      = Ideal.tanh ((∑ j : Fin 1024, r (ix2 0 j) * wt (ix2 k j)) + bt (ix2 0 k)) := by
  unfold k0_pay4 k0_pay3 k0_pay2
  simp only [pointwise, zero_add]

theorem sum_eq (r s : FVec Ideal S1x1024 .f32) : k0_pay185 (F := Ideal) r s = addf s r := by
  refine row_ext fun k => ?_
  unfold k0_pay185
  simp only [pointwise]

theorem keep_eq (r : FVec Ideal S1x1024 .f32) : k0_pay5 (F := Ideal) r = r := by
  refine row_ext fun k => ?_
  unfold k0_pay5 k0_pay3
  simp only [pointwise]

/-- The reference's next hidden state is the kernel's, on one bias written as a vector and as a row. -/
theorem hidden_eq (wt : FVec Ideal S1024x1024 .f32) (b : FVec Ideal S1024 .f32) (bt r : FVec Ideal S1x1024 .f32)
    (hb : ∀ k : Fin 1024, bt (ix2 0 k) = b (ix1 k)) :
    Cert.ReferenceIdeal.Value.next wt b r = k0_pay1 (k0_pay186 (F := Ideal) wt (k0_pay2 bt) r) := by
  refine row_ext fun k => ?_
  rw [next_at, hb, Cert.ReferenceIdeal.Value.next_at]

/-- The head of one draw is the plane of the heads that the reference cuts. -/
theorem logits_eq (heads : FVec Ideal S15x2048x1024 .f32) (h : FVec Ideal S1x1024 .f32) (n : ℕ) (hn : n < 15)
    (i : IVec S_ 32) (hi : i ix0 = BitVec.ofNat 32 n) :
    row (Model.logits (F := Ideal) h (Run.headAt (F := Ideal) heads (Run.pt n)))
      = entries (Cert.ReferenceIdeal.Value.logits h (Cert.ReferenceIdeal.Value.planeAt heads i)) := by
  funext k
  show Model.logits (F := Ideal) h _ (ix2 0 k) = Cert.ReferenceIdeal.Value.logits h _ (ix1 k)
  rw [logits_at, Cert.ReferenceIdeal.Value.logits_at]
  refine Finset.sum_congr rfl fun j _ => ?_
  rw [Cert.ReferenceIdeal.Value.planeAt_at heads i ⟨n, hn⟩ hi]
  refine congrArg (h (ix2 0 j) * ·) (congrArg heads ?_)
  funext a
  match a with
  | ⟨0, _⟩ => exact Fin.ext (Nat.mod_eq_of_lt hn)
  | ⟨1, _⟩ => rfl
  | ⟨2, _⟩ => rfl

/-- The two programs draw the same number: the class of rank `d` of the logits, `d` the drawn rank. -/
theorem code_eq (temp : FVec Ideal S1 .f32) (unif : FVec Ideal S15 .f32) (heads : FVec Ideal S15x2048x1024 .f32)
    (h : FVec Ideal S1x1024 .f32) (n : ℕ) (hn : n < 15) (i : IVec S_ 32) (hi : i ix0 = BitVec.ofNat 32 n)
    (t : FVec Ideal S_ .f32) (ht : t ix0 = floored (temp (ix1 0))) (hT : temp (ix1 0) ≠ ⊤) :
    ∃ v : Fin 2048, Run.codeOf (F := Ideal) (Run.pt n) temp unif (Run.headAt (F := Ideal) heads (Run.pt n)) h = BitVec.ofNat 32 v.val
      ∧ ∀ j, Cert.ReferenceIdeal.Value.sampled
          (Cert.ReferenceIdeal.Value.logits h (Cert.ReferenceIdeal.Value.planeAt heads i)) t
          (Cert.ReferenceIdeal.Value.unifAt unif i) j = BitVec.ofNat 32 v.val := by
  set l := Cert.ReferenceIdeal.Value.logits h (Cert.ReferenceIdeal.Value.planeAt heads i) with hl
  have el := logits_eq heads h n hn i hi
  rw [← hl] at el
  obtain ⟨d, hd, hs⟩ := Cert.ReferenceIdeal.Value.sampled_eq l t (Cert.ReferenceIdeal.Value.unifAt unif i)
  refine ⟨_, ?_, hs⟩
  have hu : Cert.ReferenceIdeal.Value.clipped (Cert.ReferenceIdeal.Value.unifAt unif i) ix0
      = Model.clipped (F := Ideal) (unif (ix1 ⟨n, hn⟩)) := by
    rw [Cert.ReferenceIdeal.Value.clipped_at, Cert.ReferenceIdeal.Value.unifAt_at unif i ⟨n, hn⟩ hi]
    rfl
  rw [hu, ht] at hd
  have hx : unif (ix1 ((Run.pt n) 0)) = unif (ix1 ⟨n, hn⟩) :=
    congrArg (fun q : Fin 15 => unif (ix1 q)) (Fin.ext (Nat.mod_eq_of_lt hn))
  show Model.sample (F := Ideal) h _ (temp (ix1 0)) (unif (ix1 ((Run.pt n) 0))) = _
  rw [hx]
  refine Model.sample_eq h _ _ _ hT (π := Cert.ReferenceIdeal.Value.order l) ?_ ?_
  · rw [el]; exact Cert.ReferenceIdeal.Value.order_ranked l
  · rw [el]; exact hd

/-- The reference's row of the table is the one the kernel copies. -/
theorem table_eq (table : FVec Ideal S15x2048x1024 .f32) (n : ℕ) (hn : n < 15) (i : IVec S_ 32)
    (hi : i ix0 = BitVec.ofNat 32 n) (code : IVec S_ 32) (v : Fin 2048) (hv : code ix0 = BitVec.ofNat 32 v.val) :
    Cert.ReferenceIdeal.Value.asRow (Cert.ReferenceIdeal.Value.takeRow (Cert.ReferenceIdeal.Value.planeAt table i) code)
      = Run.tableRow (F := Ideal) (Run.pt n) table (BitVec.ofNat 32 v.val) := by
  refine row_ext fun k => ?_
  rw [Cert.ReferenceIdeal.Value.asRow_at, Cert.ReferenceIdeal.Value.takeRow_at _ code v hv,
    Cert.ReferenceIdeal.Value.planeAt_at table i ⟨n, hn⟩ hi]
  refine congrArg table ?_
  have hv' := v.isLt
  funext a
  match a with
  | ⟨0, _⟩ => exact Fin.ext (Nat.mod_eq_of_lt hn).symm
  | ⟨1, _⟩ =>
    refine Fin.ext ?_
    show v.val = (BitVec.ofNat 32 v.val).toNat % 2048
    rw [BitVec.toNat_ofNat]
    omega
  | ⟨2, _⟩ => rfl

end Cert.Agree
end
-- ==== Proof.Entry.lean ====
/-
  What the reference's loop finds at its entry and what the kernel's launch finds, at the extended reals: the arguments, the
  floored temperature, the first hidden state and the first sum.
-/
module

public import proofs.«01_k».proof.Proof.Agree
public import proofs.«01_k».proof.Proof.Ref
public import Idealize.ShloMosaic.Lib.StableHlo.RunClose

@[expose] public section

noncomputable section

namespace Cert.ReferenceIdeal.Value

open Cert.ReferenceIdeal.Gen
open Idealize.ShloMosaic Idealize.ShloMosaic.StableHlo Idealize.SL.Sem

variable {F : FTy → Type} [FloatOps F]

/-- The first hidden state: the row of `arg1` of the two rows' projections. -/
def first (x0 x1 : FVec F S1x1x1024 .f32) (wt : FVec F S1024x1024 .f32) (bt : FVec F S1024 .f32) : FVec F S1x1024 .f32 :=
  shapeCast S1x1024 (extractStridedSlice S1x1x1024 ![0, 1, 0] (Host.tanh (addf
    (Host.dotGeneral dot_S1x2x1024_S1024x1024_S1x2x1024_2_0_01_1_n_n none
      (concatenate S1x2x1024 1 [⟨S1x1x1024, x0⟩, ⟨S1x1x1024, x1⟩] concatenates_S1x1x1024_S1x1x1024_S1x2x1024_d1)
      (transpose S1024x1024 [1, 0] wt transposes_S1024x1024_S1024x1024_1_0))
    (broadcastInDim S1x2x1024 ![0, 1, 2] bcast_S1x1x1024_S1x2x1024_0_1_2 (broadcastInDim S1x1x1024 ![2] bcast_S1024_S1x1x1024_2 bt))))
    slices_S1x2x1024_S1x1x1024_0_1_0) shapeCasts_S1x1x1024_S1x1024

variable (m : (ℓ : Loc nD τ sig) → Buf (Elt F) ℓ) (c : Dev nD)

/-- What the loop's entry holds in the buffer of the uniform numbers. -/
theorem entry_unif : entryContents preI m c (Proc.devRef .tc main_v13_0) = m ((c.tc : Thread nD τ).loc main_arg3) := by
  simp only [entryContents, afterL_cons, afterL_nil]
  after_reads_simp
  rfl
/-- What it holds in the buffer of the heads. -/
theorem entry_heads : entryContents preI m c (Proc.devRef .tc main_v13_1) = m ((c.tc : Thread nD τ).loc main_arg4) := by
  simp only [entryContents, afterL_cons, afterL_nil]
  after_reads_simp
  rfl
/-- What it holds in the buffer of the table. -/
theorem entry_table : entryContents preI m c (Proc.devRef .tc main_v13_2) = m ((c.tc : Thread nD τ).loc main_arg5) := by
  simp only [entryContents, afterL_cons, afterL_nil]
  after_reads_simp
  rfl
/-- What it holds in the buffer of the temperature: the larger of the argument and a small constant. -/
theorem entry_temp : entryContents preI m c (Proc.devRef .tc main_v13_3)
    = (maximumf (shapeCast S_ (m ((c.tc : Thread nD τ).loc main_arg2) : FVec F S1 .f32) shapeCasts_S1_S_) (constant S_ .f32 0x3727C5AC#32) : FVec F S_ .f32) := by
  simp only [entryContents, afterL_cons, afterL_nil]
  after_reads_simp
  rfl
/-- What it holds in the buffer of the projection's weights. -/
theorem entry_wt : entryContents preI m c (Proc.devRef .tc main_v13_4) = m ((c.tc : Thread nD τ).loc main_arg6) := by
  simp only [entryContents, afterL_cons, afterL_nil]
  after_reads_simp
  rfl
/-- What it holds in the buffer of the projection's bias. -/
theorem entry_bt : entryContents preI m c (Proc.devRef .tc main_v13_5) = m ((c.tc : Thread nD τ).loc main_arg7) := by
  simp only [entryContents, afterL_cons, afterL_nil]
  after_reads_simp
  rfl
/-- What it holds in the buffer of the hidden state. -/
theorem entry_hidden : entryContents preI m c (Proc.devRef .tc main_v13_7)
    = first (m ((c.tc : Thread nD τ).loc main_arg0)) (m ((c.tc : Thread nD τ).loc main_arg1))
        (m ((c.tc : Thread nD τ).loc main_arg6)) (m ((c.tc : Thread nD τ).loc main_arg7)) := by
  simp only [entryContents, afterL_cons, afterL_nil]
  after_reads_simp
  rfl
/-- What it holds in the buffer of the sum. -/
theorem entry_sum : entryContents preI m c (Proc.devRef .tc main_v13_8)
    = (shapeCast S1x1024 (m ((c.tc : Thread nD τ).loc main_arg1) : FVec F S1x1x1024 .f32) shapeCasts_S1x1x1024_S1x1024 : FVec F S1x1024 .f32) := by
  simp only [entryContents, afterL_cons, afterL_nil]
  after_reads_simp
  rfl

end Cert.ReferenceIdeal.Value

namespace Cert.KernelIdeal.Run

open Cert.KernelIdeal.Gen
open Idealize.ShloMosaic Idealize.ShloMosaic.StableHlo Idealize.SL.Sem

variable {F : FTy → Type} [FloatOps F]
variable (m : (ℓ : Loc nD τ sig) → Buf (Elt F) ℓ) (c : Dev nD)

/-- The kernel is launched on the first code's embedding written as a row. -/
theorem code0_eq : code0Of m c
    = (shapeCast S1x1024 (m ((c.tc : Thread nD τ).loc main_arg1) : FVec F S1x1x1024 .f32) shapeCasts_S1x1x1024_S1x1024 : FVec F S1x1024 .f32) := by
  show after hostOps0 (fun b => m (c, b)) (Proc.devRef .tc main_v0) = _
  after_reads_simp
  rfl
/-- The kernel is launched on the bias written as a row. -/
theorem bt_eq : btOf m c
    = (shapeCast S1x1024 (m ((c.tc : Thread nD τ).loc main_arg7) : FVec F S1024 .f32) shapeCasts_S1024_S1x1024 : FVec F S1x1024 .f32) := by
  show after hostOps0 (fun b => m (c, b)) (Proc.devRef .tc main_v1) = _
  after_reads_simp
  rfl

end Cert.KernelIdeal.Run

namespace Cert.Agree

open Idealize.ShloMosaic

/-- A vector written as a row. -/
theorem asRow_cast (b : FVec Ideal KernelIdeal.S1024 .f32) (k : Fin 1024) :
    shapeCast KernelIdeal.S1x1024 b Cert.KernelIdeal.Gen.shapeCasts_S1024_S1x1024 (ix2 0 k) = b (ix1 k) := by
  simp only [pointwise]

/-- The second of the two rows is `x1`. -/
theorem second_at (x0 x1 : FVec Ideal ReferenceIdeal.S1x1x1024 .f32) (j : Fin 1024) :
    concatenate ReferenceIdeal.S1x2x1024 1 [⟨ReferenceIdeal.S1x1x1024, x0⟩, ⟨ReferenceIdeal.S1x1x1024, x1⟩]
      ReferenceIdeal.Gen.concatenates_S1x1x1024_S1x1x1024_S1x2x1024_d1 (ix3 0 1 j) = x1 (ix3 0 0 j) := by
  refine concatenate_pair_apply_right (t := ReferenceIdeal.S1x2x1024) 1 x0 x1 _ (ix3 0 1 j) rfl rfl (ix3 0 0 j) (fun b hb => ?_) rfl
  match b, hb with
  | ⟨0, _⟩, _ => rfl
  | ⟨1, _⟩, hb => exact absurd rfl hb
  | ⟨2, _⟩, _ => rfl

/-- The reference's first hidden state, an entry at a time: of its two rows only `x1`'s is read. -/
theorem first_at (x0 x1 : FVec Ideal ReferenceIdeal.S1x1x1024 .f32) (wt : FVec Ideal ReferenceIdeal.S1024x1024 .f32)
    (bt : FVec Ideal ReferenceIdeal.S1024 .f32) (k : Fin 1024) :
    ReferenceIdeal.Value.first (F := Ideal) x0 x1 wt bt (ix2 0 k)
      = Ideal.tanh ((∑ j : Fin 1024, x1 (ix3 0 0 j) * wt (ix2 k j)) + bt (ix1 k)) := by
  unfold ReferenceIdeal.Value.first
  have hx := second_at x0 x1
  generalize concatenate ReferenceIdeal.S1x2x1024 1 [⟨ReferenceIdeal.S1x1x1024, x0⟩, ⟨ReferenceIdeal.S1x1x1024, x1⟩]
    ReferenceIdeal.Gen.concatenates_S1x1x1024_S1x1x1024_S1x2x1024_d1 = y at hx ⊢
  simp only [pointwise]
  have hk : ∀ q : Fin 1024, q.val = 0 + k.val → q = k := fun q hq => Fin.ext (hq.trans (Nat.zero_add _))
  refine congrArg Ideal.tanh (congrArg₂ (· + ·) ((zero_add _).trans (Finset.sum_congr rfl fun j _ => ?_)) ?_)
  · exact congrArg₂ (· * ·) (hx j) (congrArg (fun q : Fin 1024 => wt (ix2 q j)) (hk _ rfl))
  · exact congrArg (fun q : Fin 1024 => bt (ix1 q)) (hk _ rfl)

end Cert.Agree
end
-- ==== Proof.Algebraic.lean ====
/-
  The value claim: from equal arguments, at a temperature below +inf, the kernel and the reference end with the same codes and
  the same sum. The loop's trips are followed one by one: before trip `k` the reference holds the kernel's state before point
  `k` and the codes of the points already past.
-/
module

public import proofs.«01_k».proof.Defs
public import proofs.«01_k».proof.Proof.Entry
public import proofs.«01_k».proof.Proof.Frames

@[expose] public section

noncomputable section

namespace Cert.Agree

open Idealize.ShloMosaic Idealize.ShloMosaic.StableHlo Idealize.SL.Sem
open Cert.KernelIdeal.Run
open Cert.ReferenceIdeal (main_v13_0 main_v13_1 main_v13_2 main_v13_3 main_v13_4 main_v13_5 main_v13_6 main_v13_7 main_v13_8 main_v13_9)
open Cert.ReferenceIdeal.Value (body_hidden body_sum body_codes tripCode tripRow loopW atK_kept body_kept cond_kept entry_unif entry_heads
  entry_table entry_temp entry_wt entry_bt entry_hidden entry_sum eq_ix0)
open Cert.ReferenceIdeal.Value (atK condOps bodyI preI condOps_writes atK_ctr ctr_cond)

/-- A device of either program. -/
abbrev D := Dev Cert.KernelIdeal.nD
/-- The kernel's memory. -/
abbrev MemK := (ℓ : Loc Cert.KernelIdeal.nD Cert.KernelIdeal.τ Cert.KernelIdeal.sig) → Buf (Elt Ideal) ℓ
/-- The reference's memory. -/
abbrev MemR := (ℓ : Loc Cert.ReferenceIdeal.nD Cert.ReferenceIdeal.τ Cert.ReferenceIdeal.sig) → Buf (Elt Ideal) ℓ

/-- The arguments of the two programs are equal on a device. -/
def Same (m : MemK) (m' : MemR) (c : D) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

variable (m : MemK) (m' : MemR) (c : D)

/-- What the body of trip `k` finds: the buffers after the condition. -/
abbrev found (k : ℕ) : Valuation Cert.ReferenceIdeal.τ Cert.ReferenceIdeal.sig (Elt Ideal) := after condOps (atK m' k c)

/-- A buffer the loop does not write is found as at the loop's entry. -/
theorem found_kept (b : Ref Cert.ReferenceIdeal.sig .tc) (h : b ∉ loopW) (k : ℕ) :
    found m' c k (Proc.devRef .tc b) = entryContents preI m' c (Proc.devRef .tc b) :=
  (cond_kept b h _).trans (atK_kept m' b (body_kept b h) (cond_kept b h) c k)

/-- The trip's number is found in the counter. -/
theorem found_ctr (k : ℕ) : (found m' c k (Proc.devRef .tc main_v13_6) : IVec Cert.ReferenceIdeal.S_ 32) ix0 = BitVec.ofNat 32 k := by
  rw [found, ctr_cond, atK_ctr]
  show 0#32 + BitVec.ofNat 32 k * 1#32 = _
  rw [BitVec.mul_one, BitVec.zero_add]

variable {m m' c}

/-- The two programs start from one hidden state. -/
theorem start_eq (h : Same m m' c) :
    (entryContents preI m' c (Proc.devRef .tc main_v13_7) : FVec Ideal Cert.KernelIdeal.S1x1024 .f32) = (state m c 0).1 := by
  obtain ⟨h0, h1, h2, h3, h4, h5, h6, h7⟩ := h
  refine row_ext fun k => ?_
  rw [entry_hidden, h1, h6, h7, first_at]
  show _ = KernelIdeal.Gen.k0_pay4 (F := Ideal) (wtOf m c) (btOf m c) (code0Of m c) (ix2 0 k)
  rw [start_at, bt_eq, asRow_cast, code0_eq, wtOf, KernelIdeal.Gen.V_main_arg6]
  simp only [pointwise]

/-- The two programs start from one sum. -/
theorem start_sum (h : Same m m' c) :
    (entryContents preI m' c (Proc.devRef .tc main_v13_8) : FVec Ideal Cert.KernelIdeal.S1x1024 .f32) = (state m c 0).2 := by
  show _ = KernelIdeal.Gen.k0_pay5 (F := Ideal) (code0Of m c)
  rw [entry_sum, h.2.1, keep_eq, code0_eq]

/-- Trip `k` draws the code of point `k`, a number below the table's length. -/
theorem trip_code (h : Same m m' c) (hT : (tempOf m c : FVec Ideal KernelIdeal.S1 .f32) (ix1 0) ≠ ⊤) (k : ℕ) (hk : k < 15)
    (hh : (found m' c k (Proc.devRef .tc main_v13_7) : FVec Ideal Cert.KernelIdeal.S1x1024 .f32) = (state m c k).1) :
    ∃ v : Fin 2048, codeAt m c k = BitVec.ofNat 32 v.val ∧ ∀ j, tripCode (found m' c k) j = BitVec.ofNat 32 v.val := by
  obtain ⟨h0, h1, h2, h3, h4, h5, h6, h7⟩ := h
  have ht : (found m' c k (Proc.devRef .tc main_v13_3) : FVec Ideal Cert.ReferenceIdeal.S_ .f32) ix0
      = KernelIdeal.Model.floored ((tempOf m c : FVec Ideal KernelIdeal.S1 .f32) (ix1 0)) := by
    rw [found_kept m' c main_v13_3 (by decide +kernel), entry_temp, h2, tempOf, KernelIdeal.Gen.V_main_arg2]
    simp only [pointwise]
    rfl
  have e := code_eq (tempOf m c) (unifOf m c) (headsOf m c) (state m c k).1 k hk _ (found_ctr m' c k) _ ht hT
  obtain ⟨v, hv, hw⟩ := e
  refine ⟨v, hv, fun j => ?_⟩
  rw [← hw j]
  unfold tripCode
  rw [hh, found_kept m' c main_v13_1 (by decide +kernel), entry_heads, h4, found_kept m' c main_v13_0 (by decide +kernel), entry_unif, h3,
    headsOf, unifOf, KernelIdeal.Gen.V_main_arg4, KernelIdeal.Gen.V_main_arg3]

/-- Trip `k` takes the row of point `k`. -/
theorem trip_row (h : Same m m' c) (k : ℕ) (hk : k < 15) (v : Fin 2048) (hv : codeAt m c k = BitVec.ofNat 32 v.val)
    (hw : ∀ j, tripCode (found m' c k) j = BitVec.ofNat 32 v.val) :
    tripRow (found m' c k) = (tableRow (F := Ideal) (pt k) (tableOf m c) (codeAt m c k) : FVec Ideal Cert.KernelIdeal.S1x1024 .f32) := by
  obtain ⟨h0, h1, h2, h3, h4, h5, h6, h7⟩ := h
  unfold tripRow
  rw [hv, table_eq _ k hk _ (found_ctr m' c k) _ v (hw ix0), found_kept m' c main_v13_2 (by decide +kernel), entry_table, h5, tableOf, KernelIdeal.Gen.V_main_arg5]

/-- Before trip `k` the reference holds the kernel's state before point `k`, and in the slots below `k` the kernel's codes. -/
theorem trips (h : Same m m' c) (hT : (tempOf m c : FVec Ideal KernelIdeal.S1 .f32) (ix1 0) ≠ ⊤) : ∀ k ≤ 15,
    (found m' c k (Proc.devRef .tc main_v13_7) : FVec Ideal Cert.KernelIdeal.S1x1024 .f32) = (state m c k).1
    ∧ (found m' c k (Proc.devRef .tc main_v13_8) : FVec Ideal Cert.KernelIdeal.S1x1024 .f32) = (state m c k).2
    ∧ ∀ g : Fin 15, g.val < k → (found m' c k (Proc.devRef .tc main_v13_9) : IVec Cert.KernelIdeal.S15 32) (ix1 g) = codeAt m c g.val := by
  have kept7 := fun k => after_of_writes_sub (r := main_v13_7) condOps (atK m' k c) condOps_writes (by decide +kernel)
  have kept8 := fun k => after_of_writes_sub (r := main_v13_8) condOps (atK m' k c) condOps_writes (by decide +kernel)
  have kept9 := fun k => after_of_writes_sub (r := main_v13_9) condOps (atK m' k c) condOps_writes (by decide +kernel)
  intro k
  induction k with
  | zero =>
    intro _
    exact ⟨(kept7 0).trans (start_eq h), (kept8 0).trans (start_sum h), fun g hg => absurd hg (Nat.not_lt_zero _)⟩
  | succ k ih =>
    intro hk
    obtain ⟨i7, i8, i9⟩ := ih (by omega)
    obtain ⟨v, hv, hw⟩ := trip_code h hT k (by omega) i7
    have hr := trip_row h k (by omega) v hv hw
    obtain ⟨h0, h1, h2, h3, h4, h5, h6, h7⟩ := h
    refine ⟨?_, ?_, fun g hg => ?_⟩
    · refine (kept7 (k + 1)).trans ((body_hidden (found m' c k)).trans ?_)
      rw [hr, found_kept m' c main_v13_4 (by decide +kernel), entry_wt, found_kept m' c main_v13_5 (by decide +kernel), entry_bt, h6, h7]
      refine (hidden_eq _ _ (btOf m c) _ fun j => ?_).trans ?_
      · rw [bt_eq]; exact asRow_cast _ j
      · rw [state_succ, leave, wtOf, KernelIdeal.Gen.V_main_arg6]
    · refine (kept8 (k + 1)).trans ((body_sum (found m' c k)).trans ?_)
      rw [hr, i8]
      exact (sum_eq _ _).symm
    · refine (congrFun (kept9 (k + 1)) _).trans ((congrFun (body_codes (found m' c k)) _).trans ?_)
      rw [Cert.ReferenceIdeal.Value.putCode_at _ _ _ ⟨k, by omega⟩ (found_ctr m' c k)]
      by_cases e : g = ⟨k, by omega⟩
      · rw [if_pos e, e, hw, hv]
      · rw [if_neg e]
        exact i9 g (lt_of_le_of_ne (by omega) fun q => e (Fin.ext q))

/-- The precondition's facts. -/
theorem preFacts : Cert.Pre_temperature_below_inf.Facts := ⟨by decide⟩

attribute [local instance] Cert.Kernel.Gen.facts Cert.KernelIdeal.Gen.facts Cert.ReferenceIdeal.Gen.facts preFacts

/-- The precondition says that the temperature is not `+inf`. -/
theorem temp_ne_top (hp : Cert.Pre_KernelIdeal_temperature_below_inf m) : (tempOf m c : FVec Ideal KernelIdeal.S1 .f32) (ix1 0) ≠ ⊤ := by
  have e := congrFun (hp c) (ix1 0)
  rw [tempOf, KernelIdeal.Gen.V_main_arg2]
  intro ht
  refine absurd e ?_
  unfold Cert.Pre_temperature_below_inf.fn
  simp only [pointwise]
  rw [ht, decide_eq_false not_top_lt]
  decide

/-- Every run of the kernel and every run of the reference, from equal arguments at a temperature below `+inf`, end with the same
    codes and the same sum, the arguments as launched. -/
theorem algebraic : Cert.algebraic_KernelIdeal_ReferenceIdeal_pre_temperature_below_inf := fun m ρ m' ρ' hp hs => by
  refine ⟨fun c => (fun x => codeAt m c (x 0).val : Vec Ideal KernelIdeal.S15 .i32), fun c => (state m c 15).2, ?_, ?_⟩
  · exact (θ_run Cert.KernelIdeal.defs _ _).mono (fun r h c => ⟨(h.1 c).1.1, (h.1 c).1.2, (h.1 c).2⟩) (run (F := Ideal) m ρ)
  · refine (θ_run Cert.ReferenceIdeal.defs _ _).mono (fun r h c => ?_) (Cert.ReferenceIdeal.Value.run_fold m' ρ')
    have e := trips (hs c) (temp_ne_top (c := c) hp) 15 le_rfl
    refine ⟨(h c main_v13_9 rfl).trans (funext fun x => ?_), (h c main_v13_8 rfl).trans e.2.1, Cert.ReferenceIdeal.Value.args_kept m' c r.2.mem (h c)⟩
    have hx : x = ix1 (x 0) := funext fun a => match a with | ⟨0, _⟩ => rfl
    rw [hx]
    exact e.2.2 (x 0) (x 0).isLt

end Cert.Agree
end
-- ==== Proof.lean ====
/-
  The proof of `Cert.Claim`. The frames are in `Proof/Frames.lean`: the kernel's over the launch of `Proof/Launch.lean`, the
  reference's over the run of its loop in `Proof/Ref.lean`. The value claim is in `Proof/Algebraic.lean`.
-/
module

public import proofs.«01_k».proof.Defs
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Cert.Agree.preFacts,
  frame_p, frame_pi, fun m ρ _ => frame_pi m ρ trivial, frame_ri, fun m ρ _ => frame_ri m ρ trivial, trivial, Cert.Agree.algebraic⟩

end Cert.Proof

end
